-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2x1024x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x1024x1024 .f32 := Host.absf main_arg1
  let main_cst_0 : FVec F S_ .f32 := constant S_ .f32 0x7F800000#32
  let main_v5 : FVec F S2x1024x1024 .f32 := broadcastInDim S2x1024x1024 ![] bcast_S_S2x1024x1024 main_cst_0
  let main_v6 : IVec S2x1024x1024 1 := cmpf .olt main_v4 main_v5
  let main_c_1 : IVec S_ 1 := constantI S_ 1 1#1
  let main_v7 : IVec S_ 1 := (fun x v => Host.reduce IntOp.andi x v reducesTo_S2x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S2x1024x1024 : Shape := ⟨3, ![2, 1024, 1024]⟩
abbrev S1024x1024 : Shape := ⟨2, ![1024, 1024]⟩
abbrev S1024 : Shape := ⟨1, ![1024]⟩
abbrev S1x1024 : Shape := ⟨2, ![1, 1024]⟩
abbrev S4096x8 : Shape := ⟨2, ![4096, 8]⟩
abbrev S1x256x1024 : Shape := ⟨3, ![1, 256, 1024]⟩
abbrev S1x1024x1024 : Shape := ⟨3, ![1, 1024, 1024]⟩
abbrev S256x8 : Shape := ⟨2, ![256, 8]⟩
abbrev S256x1024 : Shape := ⟨2, ![256, 1024]⟩
abbrev S256 : Shape := ⟨1, ![256]⟩
abbrev S256x1 : Shape := ⟨2, ![256, 1]⟩
abbrev S2x1024x2048 : Shape := ⟨3, ![2, 1024, 2048]⟩
abbrev S1x1024x2048 : Shape := ⟨3, ![1, 1024, 2048]⟩
abbrev S32768x1 : Shape := ⟨2, ![32768, 1]⟩
abbrev S_ : Shape := ⟨0, ![]⟩
abbrev S8 : Shape := ⟨1, ![8]⟩
abbrev S1x8 : Shape := ⟨2, ![1, 8]⟩
abbrev S32768x8 : Shape := ⟨2, ![32768, 8]⟩
abbrev S262144 : Shape := ⟨1, ![262144]⟩
abbrev S16384x2x128 : Shape := ⟨3, ![16384, 2, 128]⟩
abbrev S262144x2x128 : Shape := ⟨3, ![262144, 2, 128]⟩
abbrev S256x2x128 : Shape := ⟨3, ![256, 2, 128]⟩
abbrev S32768x2048 : Shape := ⟨2, ![32768, 2048]⟩
abbrev S2x16384x16 : Shape := ⟨3, ![2, 16384, 16]⟩
abbrev S2048x2048 : Shape := ⟨2, ![2048, 2048]⟩
abbrev S1x2048x16 : Shape := ⟨3, ![1, 2048, 16]⟩
abbrev S1024x16 : Shape := ⟨2, ![1024, 16]⟩
abbrev S16x1024 : Shape := ⟨2, ![16, 1024]⟩
abbrev S2048x256 : Shape := ⟨2, ![2048, 256]⟩
abbrev S256x2048 : Shape := ⟨2, ![256, 2048]⟩
abbrev S2048x1024 : Shape := ⟨2, ![2048, 1024]⟩
abbrev S2048x16 : Shape := ⟨2, ![2048, 16]⟩
abbrev S256x16 : Shape := ⟨2, ![256, 16]⟩
abbrev S2x2048x8x16 : Shape := ⟨4, ![2, 2048, 8, 16]⟩
abbrev S2x16x2048x8 : Shape := ⟨4, ![2, 16, 2048, 8]⟩

abbrev nBuf : Table → Nat
  | .hbm => 49
  | .local .tc .vmem => 30
  | .local .scVector .vmem => 2
  | _ => 0

abbrev bufTy : (tb : Table) → Fin (nBuf tb) → BufTy
  | .hbm, ⟨0, _⟩ => ⟨S2x2048x1024, .f32⟩
  | .hbm, ⟨1, _⟩ => ⟨S2x1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2x1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4096x8, .i32⟩
  | .hbm, ⟨24, _⟩ => ⟨S2x2048x1024, .f32⟩
  | .hbm, ⟨25, _⟩ => ⟨S2x1024x2048, .f32⟩
  | .hbm, ⟨26, _⟩ => ⟨S32768x1, .i32⟩
  | .hbm, ⟨27, _⟩ => ⟨S_, .i32⟩
  | .hbm, ⟨28, _⟩ => ⟨S32768x1, .i32⟩
  | .hbm, ⟨29, _⟩ => ⟨S32768x1, .i32⟩
  | .hbm, ⟨30, _⟩ => ⟨S_, .i32⟩
  | .hbm, ⟨31, _⟩ => ⟨S32768x1, .i32⟩
  | .hbm, ⟨32, _⟩ => ⟨S32768x1, .i32⟩
  | .hbm, ⟨33, _⟩ => ⟨S_, .i32⟩
  | .hbm, ⟨34, _⟩ => ⟨S32768x1, .i32⟩
  | .hbm, ⟨35, _⟩ => ⟨S32768x1, .i32⟩
  | .hbm, ⟨36, _⟩ => ⟨S8, .i32⟩
  | .hbm, ⟨37, _⟩ => ⟨S1x8, .i32⟩
  | .hbm, ⟨38, _⟩ => ⟨S32768x8, .i32⟩
  | .hbm, ⟨39, _⟩ => ⟨S32768x8, .i32⟩
  | .hbm, ⟨40, _⟩ => ⟨S32768x8, .i32⟩
  | .hbm, ⟨41, _⟩ => ⟨S262144, .i32⟩
  | .hbm, ⟨42, _⟩ => ⟨S16384x2x128, .f32⟩
  | .hbm, ⟨43, _⟩ => ⟨S262144x2x128, .f32⟩
  | .hbm, ⟨44, _⟩ => ⟨S32768x2048, .f32⟩
  | .hbm, ⟨45, _⟩ => ⟨S2x2048x1024, .f32⟩
  | .hbm, ⟨46, _⟩ => ⟨S2x16384x16, .f32⟩
  | .hbm, ⟨47, _⟩ => ⟨S2x2048x8x16, .f32⟩
  | .hbm, ⟨48, _⟩ => ⟨S2x16x2048x8, .f32⟩
  | .local .tc .vmem, ⟨0, _⟩ => ⟨S1x256x1024, .f32⟩
  | .local .tc .vmem, ⟨1, _⟩ => ⟨S1x256x1024, .f32⟩
  | .local .tc .vmem, ⟨2, _⟩ => ⟨S1x1024x1024, .f32⟩
  | .local .tc .vmem, ⟨3, _⟩ => ⟨S1x1024x1024, .f32⟩
  | .local .tc .vmem, ⟨4, _⟩ => ⟨S1024x1024, .f32⟩
  | .local .tc .vmem, ⟨5, _⟩ => ⟨S1x1024, .f32⟩
  | .local .tc .vmem, ⟨6, _⟩ => ⟨S1024x1024, .f32⟩
  | .local .tc .vmem, ⟨7, _⟩ => ⟨S1x1024, .f32⟩
  | .local .tc .vmem, ⟨8, _⟩ => ⟨S256x8, .i32⟩
  | .local .tc .vmem, ⟨9, _⟩ => ⟨S256x8, .i32⟩
  | .local .tc .vmem, ⟨10, _⟩ => ⟨S1x256x1024, .f32⟩
  | .local .tc .vmem, ⟨11, _⟩ => ⟨S1x256x1024, .f32⟩
  | .local .tc .vmem, ⟨12, _⟩ => ⟨S1x1024x1024, .f32⟩
  | .local .tc .vmem, ⟨13, _⟩ => ⟨S1x1024x1024, .f32⟩
  | .local .tc .vmem, ⟨14, _⟩ => ⟨S1024x1024, .f32⟩
  | .local .tc .vmem, ⟨15, _⟩ => ⟨S1024x1024, .f32⟩
  | .local .tc .vmem, ⟨16, _⟩ => ⟨S1x1024, .f32⟩
  | .local .tc .vmem, ⟨17, _⟩ => ⟨S1x1024, .f32⟩
  | .local .tc .vmem, ⟨18, _⟩ => ⟨S1x1024x2048, .f32⟩
  | .local .tc .vmem, ⟨19, _⟩ => ⟨S1x1024x2048, .f32⟩
  | .local .tc .vmem, ⟨20, _⟩ => ⟨S1x256x1024, .f32⟩
  | .local .tc .vmem, ⟨21, _⟩ => ⟨S1x256x1024, .f32⟩
  | .local .tc .vmem, ⟨22, _⟩ => ⟨S2048x2048, .f32⟩
  | .local .tc .vmem, ⟨23, _⟩ => ⟨S2048x2048, .f32⟩
  | .local .tc .vmem, ⟨24, _⟩ => ⟨S1024x1024, .f32⟩
  | .local .tc .vmem, ⟨25, _⟩ => ⟨S1x1024, .f32⟩
  | .local .tc .vmem, ⟨26, _⟩ => ⟨S1x256x1024, .f32⟩
  | .local .tc .vmem, ⟨27, _⟩ => ⟨S1x256x1024, .f32⟩
  | .local .tc .vmem, ⟨28, _⟩ => ⟨S1x2048x16, .f32⟩
  | .local .tc .vmem, ⟨29, _⟩ => ⟨S1x2048x16, .f32⟩
  | .local .scVector .vmem, ⟨0, _⟩ => ⟨S256, .i32⟩
  | .local .scVector .vmem, ⟨1, _⟩ => ⟨S256x2x128, .f32⟩
  | _, _ => ⟨S2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v30 : Ref sig .tc := ⟨.hbm, 47, rfl⟩
abbrev main_v31 : Ref sig .tc := ⟨.hbm, 48, rfl⟩
abbrev main_v26_scv : Ref sig .scVector := ⟨.hbm, 42, rfl⟩
abbrev main_v25_scv : Ref sig .scVector := ⟨.hbm, 41, rfl⟩
abbrev main_v27_scv : Ref sig .scVector := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc3_sem5_0 : DmaSem sig := 31
abbrev cc3_sem5_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

@[reducible] def k2_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k2_t1
  let c256_i32 : BitVec 32 := 256#32
  let v4 : BitVec 32 := Scalar.muli arg8 c256_i32
  let v5 : BitVec 32 := Scalar.addi v2 v4
  ![v5.toNat]
def k2_off2 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k2_t1
  let c256_i32 : BitVec 32 := 256#32
  let v4 : BitVec 32 := Scalar.muli arg8 c256_i32
  let v5 : BitVec 32 := Scalar.addi v2 v4
  let c0_i32_8_r1 : BitVec 32 := 0#32
  let c0_i32_9_r1 : BitVec 32 := 0#32
  ![v5.toNat, 0, 0]
abbrev grid3 : Pipeline.Grid := ⟨2, ![2, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x2048x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S2x1024x1024 : Shape := ⟨3, ![2, 1024, 1024]⟩
abbrev S1024x1024 : Shape := ⟨2, ![1024, 1024]⟩
abbrev S1024 : Shape := ⟨1, ![1024]⟩
abbrev S1x1x1024 : Shape := ⟨3, ![1, 1, 1024]⟩
abbrev S2x2048x8 : Shape := ⟨3, ![2, 2048, 8]⟩
abbrev S_ : Shape := ⟨0, ![]⟩
abbrev S2x2048x8x1 : Shape := ⟨4, ![2, 2048, 8, 1]⟩
abbrev S2x2048x8x1024 : Shape := ⟨4, ![2, 2048, 8, 1024]⟩
abbrev S1x1x1x1024 : Shape := ⟨4, ![1, 1, 1, 1024]⟩
abbrev S2x2048x16x64 : Shape := ⟨4, ![2, 2048, 16, 64]⟩
abbrev S2x16x2048x64 : Shape := ⟨4, ![2, 16, 2048, 64]⟩
abbrev S2x2048x8x16x64 : Shape := ⟨5, ![2, 2048, 8, 16, 64]⟩
abbrev S2x16x2048x8x64 : Shape := ⟨5, ![2, 16, 2048, 8, 64]⟩
abbrev S2x16x2048x8 : Shape := ⟨4, ![2, 16, 2048, 8]⟩
abbrev S2x16x2048 : Shape := ⟨3, ![2, 16, 2048]⟩
abbrev S2x16x2048x1 : Shape := ⟨4, ![2, 16, 2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x1024x1024, .f32⟩
  | .hbm, ⟨18, _⟩ => ⟨S2x2048x1024, .f32⟩
  | .hbm, ⟨19, _⟩ => ⟨S2x2048x8, .f32⟩
  | .hbm, ⟨20, _⟩ => ⟨S2x2048x8, .i32⟩
  | .hbm, ⟨21, _⟩ => ⟨S_, .i32⟩
  | .hbm, ⟨22, _⟩ => ⟨S2x2048x8, .i32⟩
  | .hbm, ⟨23, _⟩ => ⟨S2x2048x8, .i1⟩
  | .hbm, ⟨24, _⟩ => ⟨S_, .i32⟩
  | .hbm, ⟨25, _⟩ => ⟨S2x2048x8, .i32⟩
  | .hbm, ⟨26, _⟩ => ⟨S2x2048x8, .i32⟩
  | .hbm, ⟨27, _⟩ => ⟨S2x2048x8, .i32⟩
  | .hbm, ⟨28, _⟩ => ⟨S2x2048x8x1, .i32⟩
  | .hbm, ⟨29, _⟩ => ⟨S2x2048x8x1024, .f32⟩
  | .hbm, ⟨30, _⟩ => ⟨S1024x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S1024x1024, .f32⟩
  | .hbm, ⟨36, _⟩ => ⟨S2x2048x8x1024, .f32⟩
  | .hbm, ⟨37, _⟩ => ⟨S1x1x1x1024, .f32⟩
  | .hbm, ⟨38, _⟩ => ⟨S2x2048x8x1024, .f32⟩
  | .hbm, ⟨39, _⟩ => ⟨S2x2048x8x1024, .f32⟩
  | .hbm, ⟨40, _⟩ => ⟨S1024x1024, .f32⟩
  | .hbm, ⟨41, _⟩ => ⟨S2x2048x8x1024, .f32⟩
  | .hbm, ⟨42, _⟩ => ⟨S1x1x1x1024, .f32⟩
  | .hbm, ⟨43, _⟩ => ⟨S2x2048x8x1024, .f32⟩
  | .hbm, ⟨44, _⟩ => ⟨S2x2048x8x1024, .f32⟩
  | .hbm, ⟨45, _⟩ => ⟨S2x2048x16x64, .f32⟩
  | .hbm, ⟨46, _⟩ => ⟨S2x16x2048x64, .f32⟩
  | .hbm, ⟨47, _⟩ => ⟨S2x2048x8x16x64, .f32⟩
  | .hbm, ⟨48, _⟩ => ⟨S2x16x2048x8x64, .f32⟩
  | .hbm, ⟨49, _⟩ => ⟨S2x2048x8x16x64, .f32⟩
  | .hbm, ⟨50, _⟩ => ⟨S2x16x2048x8x64, .f32⟩
  | .hbm, ⟨51, _⟩ => ⟨S2x16x2048x8, .f32⟩
  | .hbm, ⟨52, _⟩ => ⟨S_, .f32⟩
  | .hbm, ⟨53, _⟩ => ⟨S2x16x2048x8, .f32⟩
  | .hbm, ⟨54, _⟩ => ⟨S2x16x2048x8, .f32⟩
  | .hbm, ⟨55, _⟩ => ⟨S_, .f32⟩
  | .hbm, ⟨56, _⟩ => ⟨S2x16x2048, .f32⟩
  | .hbm, ⟨57, _⟩ => ⟨S_, .f32⟩
  | .hbm, ⟨58, _⟩ => ⟨S2x16x2048, .f32⟩
  | .hbm, ⟨59, _⟩ => ⟨S2x16x2048, .f32⟩
  | .hbm, ⟨60, _⟩ => ⟨S2x16x2048x1, .f32⟩
  | .hbm, ⟨61, _⟩ => ⟨S2x16x2048x8, .f32⟩
  | .hbm, ⟨62, _⟩ => ⟨S2x16x2048x8, .f32⟩
  | .hbm, ⟨63, _⟩ => ⟨S2x16x2048x8, .f32⟩
  | .hbm, ⟨64, _⟩ => ⟨S_, .f32⟩
  | .hbm, ⟨65, _⟩ => ⟨S2x16x2048, .f32⟩
  | .hbm, ⟨66, _⟩ => ⟨S2x16x2048x1, .f32⟩
  | .hbm, ⟨67, _⟩ => ⟨S2x16x2048x8, .f32⟩
  | .hbm, ⟨68, _⟩ => ⟨S2x16x2048x8, .f32⟩
  | .hbm, ⟨69, _⟩ => ⟨S2x16x2048x64, .f32⟩
  | .hbm, ⟨70, _⟩ => ⟨S2x2048x16x64, .f32⟩
  | .hbm, ⟨71, _⟩ => ⟨S2x2048x1024, .f32⟩
  | .hbm, ⟨72, _⟩ => ⟨S1024x1024, .f32⟩
  | .hbm, ⟨73, _⟩ => ⟨S2x2048x1024, .f32⟩
  | .hbm, ⟨74, _⟩ => ⟨S1x1x1024, .f32⟩
  | .hbm, ⟨75, _⟩ => ⟨S2x2048x1024, .f32⟩
  | .hbm, ⟨76, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_values : Ref sig .tc := ⟨.hbm, 19, rfl⟩
abbrev main_indices : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Proof.RI.Tile.lean ====
/-
  The gather on the SparseCore: one tile's task, with values. Every tile reads shares of the whole index list and of
  the whole table, and owns 32 pieces of the result, one per trip of its loop. A trip copies 256 indices in, gathers
  the 256 rows they name and writes them to the trip's piece. After the task every piece holds `gath`: the result row
  `y` is the table's row named by index `y`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.RI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 3) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers and the pieces -/

abbrev iLoc (d : Dev nD) : Loc nD τ sig := (SparseCore.T d).loc main_v25
abbrev tLoc (d : Dev nD) : Loc nD τ sig := (SparseCore.T d).loc main_v26
abbrev oLoc (d : Dev nD) : Loc nD τ sig := (SparseCore.T d).loc main_v27

local notation "iV" => (Memref.whole Cert.KernelIdeal.main_v25_scv : Memref Cert.KernelIdeal.sig Kind.scVector Space.hbm Cert.KernelIdeal.S262144 EltTy.i32)
local notation "tV" => (Memref.whole Cert.KernelIdeal.main_v26_scv : Memref Cert.KernelIdeal.sig Kind.scVector Space.hbm Cert.KernelIdeal.S16384x2x128 EltTy.f32)
local notation "oV" => (Memref.whole Cert.KernelIdeal.main_v27_scv : Memref Cert.KernelIdeal.sig Kind.scVector Space.hbm Cert.KernelIdeal.S262144x2x128 EltTy.f32)
local notation "sV" => (Memref.whole Cert.KernelIdeal.cc2_scratch0 : Memref Cert.KernelIdeal.sig Kind.scVector Space.vmem Cert.KernelIdeal.S256 EltTy.i32)
local notation "rV" => (Memref.whole Cert.KernelIdeal.cc2_scratch1 : Memref Cert.KernelIdeal.sig Kind.scVector Space.vmem Cert.KernelIdeal.S256x2x128 EltTy.f32)

theorem odiv : 1024 ∣ S262144x2x128.size 0 := ⟨256, rfl⟩
/-- The piece number of tile `(c, i)`'s trip `t`. -/
def pieceIx (c : Fin 2) (i : Fin 16) (t : Fin 32) : Fin 1024 := ⟨(i.val * 2 + c.val) * 32 + t.val, by omega⟩
abbrev oPart (j : Fin 1024) : Rect S262144x2x128 := Rect.part (s := S262144x2x128) (a₀ := 0) odiv j
abbrev oSet (j : Fin 1024) : Finset S262144x2x128.Idx := ((oV).view.slice (oPart j)).set

/-- Row `r` of the table at the last two coordinates of `y`. -/
def rowAt (r : Fin 16384) (y : S262144x2x128.Idx) : S16384x2x128.Idx := fun a => match a with
  | 0 => r
  | 1 => y 1
  | 2 => y 2

/-- Entry `n` of the index list. -/
def listIx (n : Fin 262144) : S262144.Idx := fun a => match a with
  | 0 => n

/-- The gathered rows: row `y 0` is the table's row named by entry `y 0` of the list. -/
def gath (TB : S16384x2x128.Idx → Elt F .f32) (IX : S262144.Idx → Elt F .i32) : S262144x2x128.Idx → Elt F .f32 :=
  fun y => TB (rowAt (Fin.ofNat 16384 (IX (listIx (y 0))).toNat) y)

section Contents

variable (TB : S16384x2x128.Idx → Elt F .f32) (IX : S262144.Idx → Elt F .i32) (O0 : S262144x2x128.Idx → Elt F .f32)

/-- Core `c`'s share, and tile `(c, i)`'s. -/
abbrev cq (c : Fin 2) : PosShare TreeShare := pieceOf fullShare 2 (by omega) c
abbrev tq (c : Fin 2) (i : Fin 16) : PosShare TreeShare := pieceOf (cq c) 16 (by omega) i

abbrev iPts (d : Dev nD) (q : PosShare TreeShare) : sProp 𝕄 := iLoc d ↦{q} (IX : Buf (Elt F) (iLoc d))
abbrev tPts (d : Dev nD) (q : PosShare TreeShare) : sProp 𝕄 := tLoc d ↦{q} (TB : Buf (Elt F) (tLoc d))
abbrev oPts (d : Dev nD) (f : S262144x2x128.Idx → Elt F .f32) : sProp 𝕄 := oLoc d ↦{fullShare} (f : Buf (Elt F) (oLoc d))
abbrev oPiece (d : Dev nD) (c : Fin 2) (i : Fin 16) (t : Fin 32) (f : S262144x2x128.Idx → Elt F .f32) : sProp 𝕄 :=
  oLoc d ↦[oSet (pieceIx c i t)]{fullShare} (f : Buf (Elt F) (oLoc d))
abbrev oTile (d : Dev nD) (c : Fin 2) (i : Fin 16) (f : S262144x2x128.Idx → Elt F .f32) : sProp 𝕄 :=
  bigSep Finset.univ fun t : Fin 32 => oPiece d c i t f
abbrev oCore (d : Dev nD) (c : Fin 2) (f : S262144x2x128.Idx → Elt F .f32) : sProp 𝕄 :=
  bigSep Finset.univ fun i : Fin 16 => oTile d c i f

theorem nCore_zero : (K (F := F)).nCore 0 = 2 := rfl
theorem nSub_zero : (K (F := F)).nSub 0 = 16 := rfl

/-- What the handshakes carry: shares of the list and of the table, and the pieces of the result, before and after. -/
def P : (K (F := F)).Pay (nD := nD) (Val := Elt F) (Name := ℕ) (U := UU) where
  st := fun q d c => match q with
    | 0 => iprop(iPts IX d (cq (Fin.cast nCore_zero c)) ∗ tPts TB d (cq (Fin.cast nCore_zero c)) ∗ oCore d (Fin.cast nCore_zero c) O0)
  dn := fun q d c => match q with
    | 0 => iprop(iPts IX d (cq (Fin.cast nCore_zero c)) ∗ tPts TB d (cq (Fin.cast nCore_zero c)) ∗ oCore d (Fin.cast nCore_zero c) (gath TB IX))
  go := fun q d c i => match q with
    | 0 => iprop(iPts IX d (tq (Fin.cast nCore_zero c) (Fin.cast nSub_zero i)) ∗ tPts TB d (tq (Fin.cast nCore_zero c) (Fin.cast nSub_zero i))
        ∗ oTile d (Fin.cast nCore_zero c) (Fin.cast nSub_zero i) O0)
  td := fun q d c i => match q with
    | 0 => iprop(iPts IX d (tq (Fin.cast nCore_zero c) (Fin.cast nSub_zero i)) ∗ tPts TB d (tq (Fin.cast nCore_zero c) (Fin.cast nSub_zero i))
        ∗ oTile d (Fin.cast nCore_zero c) (Fin.cast nSub_zero i) (gath TB IX))
  x := fun _ _ => iprop(emp)

instance P_storable : (P (F := F) TB IX O0).IsStorable where
  st q d c := match q with
    | 0 => (inferInstance : BI.Storable (upEmb : UEmb _ 𝕄)
      iprop(iPts IX d (cq (Fin.cast nCore_zero c)) ∗ tPts TB d (cq (Fin.cast nCore_zero c)) ∗ oCore d (Fin.cast nCore_zero c) O0))
  dn q d c := match q with
    | 0 => (inferInstance : BI.Storable (upEmb : UEmb _ 𝕄)
      iprop(iPts IX d (cq (Fin.cast nCore_zero c)) ∗ tPts TB d (cq (Fin.cast nCore_zero c)) ∗ oCore d (Fin.cast nCore_zero c) (gath TB IX)))
  go q d c i := match q with
    | 0 => (inferInstance : BI.Storable (upEmb : UEmb _ 𝕄)
      iprop(iPts IX d (tq (Fin.cast nCore_zero c) (Fin.cast nSub_zero i)) ∗ tPts TB d (tq (Fin.cast nCore_zero c) (Fin.cast nSub_zero i))
        ∗ oTile d (Fin.cast nCore_zero c) (Fin.cast nSub_zero i) O0))
  td q d c i := match q with
    | 0 => (inferInstance : BI.Storable (upEmb : UEmb _ 𝕄)
      iprop(iPts IX d (tq (Fin.cast nCore_zero c) (Fin.cast nSub_zero i)) ∗ tPts TB d (tq (Fin.cast nCore_zero c) (Fin.cast nSub_zero i))
        ∗ oTile d (Fin.cast nCore_zero c) (Fin.cast nSub_zero i) (gath TB IX)))

/-! ## The pieces split and join -/

theorem pieceIx_bij : Function.Bijective fun p : Fin 2 × Fin 16 × Fin 32 => pieceIx p.1 p.2.1 p.2.2 := by
  rw [Fintype.bijective_iff_injective_and_card]
  refine ⟨fun p q h => ?_, by simp⟩
  have h' : (p.2.1.val * 2 + p.1.val) * 32 + p.2.2.val = (q.2.1.val * 2 + q.1.val) * 32 + q.2.2.val := congrArg Fin.val h
  have := p.1.isLt; have := q.1.isLt; have := p.2.2.isLt; have := q.2.2.isLt
  exact Prod.ext (Fin.ext (by omega)) (Prod.ext (Fin.ext (by omega)) (Fin.ext (by omega)))

theorem oSet_eq (j : Fin 1024) : oSet j = (oPart j).set := by
  show ((View.whole (main_v27_scv : Ref sig .scVector)).slice (oPart j)).set = _
  rw [View.set_slice]; exact Finset.map_refl

theorem oPts_pieces (d : Dev nD) (f : S262144x2x128.Idx → Elt F .f32) :
    (oPts d f : sProp 𝕄) = bigSep Finset.univ fun c : Fin 2 => oCore d c f := by
  have h1 : (oPts d f : sProp 𝕄) = bigSep Finset.univ fun j : Fin 1024 => oLoc d ↦[oSet j]{fullShare} (f : Buf (Elt F) (oLoc d)) := by
    rw [← pointsTo_biUnion Finset.univ (ℓ := oLoc d) oSet (fun i _ j _ h => by rw [oSet_eq, oSet_eq]; exact Rect.part_disjoint odiv h),
      (Finset.biUnion_congr rfl fun i _ => oSet_eq i).trans (Rect.biUnion_part odiv)]
    try rfl
  rw [h1, bigSep_univ_equiv (Equiv.ofBijective _ pieceIx_bij), bigSep_univ_prod]
  refine bigSep_congr fun c _ => ?_
  rw [bigSep_univ_prod]
  rfl

theorem vecSplit : (K (F := F)).VecSplit' (P TB IX O0) 0 := by
  intro d c
  show iprop(iPts IX d (cq c) ∗ tPts TB d (cq c) ∗ oCore d c O0) ⊢ |={Set.univ}=> iprop(
      (bigSep Finset.univ fun i : Fin 16 => iprop(iPts IX d (tq c i) ∗ tPts TB d (tq c i) ∗ oTile d c i O0))
      ∗ ((bigSep Finset.univ fun i : Fin 16 => iprop(iPts IX d (tq c i) ∗ tPts TB d (tq c i) ∗ oTile d c i (gath TB IX)))
          -∗ iprop(iPts IX d (cq c) ∗ tPts TB d (cq c) ∗ oCore d c (gath TB IX))))
  rw [bigSep_sep', bigSep_sep', bigSep_sep', bigSep_sep']
  unfold iPts tPts
  rw [pointsTo_piecesOf (ℓ := iLoc d) Finset.univ (IX : Buf (Elt F) (iLoc d)) (o := 16) (by omega) (cq c),
    pointsTo_piecesOf (ℓ := tLoc d) Finset.univ (TB : Buf (Elt F) (tLoc d)) (o := 16) (by omega) (cq c)]
  iintro H; imodintro
  isplitl [H]; · iexact H
  iintro H; iexact H

/-- The call's operands whole are the two cores' parts, and back. -/
theorem st_eq (d : Dev nD) : (bigSep Finset.univ fun c : Fin ((K (F := F)).nCore 0) => (P TB IX O0).st 0 d c)
    = iprop(iPts IX d fullShare ∗ tPts TB d fullShare ∗ oPts d O0) := by
  rw [oPts_pieces]; unfold iPts tPts
  rw [pointsTo_piecesOf (ℓ := iLoc d) Finset.univ (IX : Buf (Elt F) (iLoc d)) (o := 2) (by omega) fullShare,
    pointsTo_piecesOf (ℓ := tLoc d) Finset.univ (TB : Buf (Elt F) (tLoc d)) (o := 2) (by omega) fullShare, ← bigSep_sep', ← bigSep_sep']
  rfl
theorem dn_eq (d : Dev nD) : (bigSep Finset.univ fun c : Fin ((K (F := F)).nCore 0) => (P TB IX O0).dn 0 d c)
    = iprop(iPts IX d fullShare ∗ tPts TB d fullShare ∗ oPts d (gath TB IX)) := by
  rw [oPts_pieces]; unfold iPts tPts
  rw [pointsTo_piecesOf (ℓ := iLoc d) Finset.univ (IX : Buf (Elt F) (iLoc d)) (o := 2) (by omega) fullShare,
    pointsTo_piecesOf (ℓ := tLoc d) Finset.univ (TB : Buf (Elt F) (tLoc d)) (o := 2) (by omega) fullShare, ← bigSep_sep', ← bigSep_sep']
  rfl

/-! ## The task -/

section Tile

variable [FloatOps F] [Named F]
variable (d : Dev nD) (L : grid2.Coords)

abbrev cV (L : grid2.Coords) : Fin τ.nSC := (L 0).castLE hcore2
abbrev jV (L : grid2.Coords) : Fin τ.nSub := (L 1).castLE hsub2
abbrev cL (L : grid2.Coords) : Fin 2 := L 0
abbrev jL (L : grid2.Coords) : Fin 16 := L 1

omit [FloatOps F] [Named F] in
theorem trips_eq : k2_t1_loop.trips = 32 := by decide
abbrev tt (t : Fin k2_t1_loop.trips) : Fin 32 := Fin.cast trips_eq t

abbrev iRectK (t : Fin k2_t1_loop.trips) : Rect S262144 := Rect.unit (s := S262144) (k2_off1 L t) S256.size (k2_off1_inb L t)
abbrev oRectK (t : Fin k2_t1_loop.trips) : Rect S262144x2x128 := Rect.unit (s := S262144x2x128) (k2_off2 L t) S256x2x128.size (k2_off2_inb L t)
abbrev iRowK (t : Fin k2_t1_loop.trips) : Memref sig .scVector .hbm S256 .i32 := (iV).slice (iRectK L t) (fun _ => rfl)
abbrev oRowK (t : Fin k2_t1_loop.trips) : Memref sig .scVector .hbm S256x2x128 .f32 := (oV).slice (oRectK L t) (fun _ => rfl)
abbrev tAllK : Memref sig .scVector .hbm S16384x2x128 .f32 := (tV).slice (Rect.unit (s := S16384x2x128) ![0, 0, 0] S16384x2x128.size inb_S16384x2x128_S16384x2x128_0_0_0) (fun _ => rfl)

omit [FloatOps F] [Named F] in
theorem oRectK_eq (t : Fin k2_t1_loop.trips) : oRectK L t = oPart (pieceIx (cL L) (jL L) (tt t)) := by
  unfold oRectK oPart Rect.part Rect.block
  congr 1 <;> funext a
  · rw [k2_off2_eq]
    match a with
    | 0 =>
      have h0 : (jL L).val = (L 1).val := rfl
      have h1 : (cL L).val = (L 0).val := rfl
      simp [Shape.partIx, Shape.partSize, pieceIx, h0, h1]; omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] [Named F] in
theorem set_oRowK (t : Fin k2_t1_loop.trips) : (oRowK L t).view.set = oSet (pieceIx (cL L) (jL L) (tt t)) := by
  show ((oV).view.slice (oRectK L t)).set = _
  exact oRectK_eq L t ▸ rfl

omit [FloatOps F] [Named F] in
theorem pts_oRowK (t : Fin k2_t1_loop.trips) (f : Buf (Elt F) (oLoc d)) :
    ((oRowK L t).view.loc (V d (cV L) (jV L)) ↦[(oRowK L t).view.set]{fullShare} f : sProp 𝕄)
      = oLoc d ↦[oSet (pieceIx (cL L) (jL L) (tt t))]{fullShare} f := by
  rw [set_oRowK]

abbrev cAcell (d : Dev nD) (c : Fin τ.nSC) (i : Fin τ.nSub) : GSem nD τ sig := (V d c i, .dma cc2_scoped0.sem)
abbrev cBcell (d : Dev nD) (c : Fin τ.nSC) (i : Fin τ.nSub) : GSem nD τ sig := (V d c i, .dma cc2_scratch2.sem)
abbrev cCcell (d : Dev nD) (c : Fin τ.nSC) (i : Fin τ.nSub) : GSem nD τ sig := (V d c i, .dma cc2_scoped1.sem)

omit [FloatOps F] [Named F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc2_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc2_scoped1.sem : SemLoc sig).isScoped .scVector = true; decide⟩⟩⟩)]

omit [FloatOps F] [Named F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- What a trip's index copy brings: the list's entries at the trip's offset. -/
abbrev idxPay (t : Fin k2_t1_loop.trips) : S256.Idx → Elt F .i32 := (iRowK L t).view.read (Elt F) IX

omit [FloatOps F] [Named F] in
theorem idxPay_apply (t : Fin k2_t1_loop.trips) (x : S256.Idx) : idxPay (F := F) IX L t x = IX ((iRowK L t).view.emb x) :=
  (View.read_apply _ _).trans (cast_eq _ _)

variable (hIX : ∀ j, (IX j).toNat < 16384)
include hIX

omit [FloatOps F] [Named F] in
theorem list_inb (t : Fin k2_t1_loop.trips) (fs : Buf (Elt F) ((V d (cV L) (jV L)).loc cc2_scratch0)) :
    ∀ x, ((sV).view.read (Elt F) (View.write (Elt F) (sV).view fs (idxPay (F := F) IX L t) Finset.univ) x).toNat < S16384x2x128.size gathers_S16384x2x128_S256x2x128.axis := by
  intro x
  rw [View.write_whole_univ]
  simp only [Memref.view_whole, View.read_whole]
  rw [idxPay_apply]; exact hIX _

omit [FloatOps F] [Named F] hIX in
theorem iRow_emb (t : Fin k2_t1_loop.trips) (x : S256.Idx) :
    ((iRowK L t).view.emb x 0).val = 16384 * (L 1).val + 8192 * (L 0).val + 256 * t.val + (x 0).val := by
  show k2_off1 L t 0 + 1 * (x 0).val = _
  rw [k2_off1_eq]; simp

omit [FloatOps F] [Named F] hIX in
theorem oRow_emb (t : Fin k2_t1_loop.trips) (x : S256x2x128.Idx) :
    ((oRowK L t).view.emb x 0).val = 16384 * (L 1).val + 8192 * (L 0).val + 256 * t.val + (x 0).val
      ∧ ((oRowK L t).view.emb x 1).val = (x 1).val ∧ ((oRowK L t).view.emb x 2).val = (x 2).val := by
  refine ⟨?_, ?_, ?_⟩
  · show k2_off2 L t 0 + 1 * (x 0).val = _
    rw [k2_off2_eq]; simp
  · show k2_off2 L t 1 + 1 * (x 1).val = _
    rw [k2_off2_eq]; simp
  · show k2_off2 L t 2 + 1 * (x 2).val = _
    rw [k2_off2_eq]; simp

omit [FloatOps F] [Named F] hIX in
theorem tAll_emb (x : S16384x2x128.Idx) : (tAllK).view.emb x = x := by
  funext a; apply Fin.ext
  show (![0, 0, 0] : Fin 3 → Nat) a + 1 * (x a).val = _
  match a with
  | 0 => simp
  | 1 => simp
  | 2 => simp

omit [FloatOps F] [Named F] in
/-- What the gather of a trip brings, element by element, is `gath` at the trip's piece. -/
theorem gath_emb (t : Fin k2_t1_loop.trips) (f : S256.Idx → Elt F .i32) (hf : f = idxPay (F := F) IX L t)
    (hn : S256.numel = S256x2x128.size gathers_S16384x2x128_S256x2x128.axis')
    (hin : ∀ x, (f x).toNat < S16384x2x128.size gathers_S16384x2x128_S256x2x128.axis) (x : S256x2x128.Idx) :
    SparseCore.gatherPayload (F := F) (e := .f32) gathers_S16384x2x128_S256x2x128 ((tAllK).view.read (Elt F) TB) (SparseCore.rows (F := F) f hn hin) x
      = gath TB IX ((oRowK L t).view.emb x) := by
  subst hf
  unfold SparseCore.gatherPayload
  rw [View.read_apply, cast_eq, tAll_emb]
  unfold gath
  congr 1
  obtain ⟨h0, h1, h2⟩ := oRow_emb L t x
  funext a; apply Fin.ext
  match a with
  | 0 =>
    refine (congrArg Fin.val (Shape.Gathers.idx_axis gathers_S16384x2x128_S256x2x128 _ x)).trans ?_
    show (idxPay (F := F) IX L t _).toNat = (Fin.ofNat 16384 (IX (listIx ((oRowK L t).view.emb x 0))).toNat).val
    rw [Fin.val_ofNat, Nat.mod_eq_of_lt (hIX _), idxPay_apply]
    congr 2
    funext b; apply Fin.ext
    match b with
    | 0 =>
      rw [iRow_emb]
      show _ = ((oRowK L t).view.emb x 0).val
      rw [h0]
      congr 1
      have e := congrArg Fin.val (S256.rowMajor.apply_symm_apply ((x gathers_S16384x2x128_S256x2x128.axis').cast hn.symm))
      exact (Shape.rowMajor_val_one _).symm.trans e
  | 1 =>
    rw [Shape.Gathers.idx_of_ne _ _ _ _ (by decide)]
    exact h1.symm
  | 2 =>
    rw [Shape.Gathers.idx_of_ne _ _ _ _ (by decide)]
    exact h2.symm

omit [FloatOps F] [Named F] in
/-- The trip's piece written with what the gather brought is the piece at `gath`. -/
theorem piece_written (t : Fin k2_t1_loop.trips) (w : S256x2x128.Idx → Elt F .f32) (hw : ∀ x, w x = gath TB IX ((oRowK L t).view.emb x)) :
    (oLoc d ↦[oSet (pieceIx (cL L) (jL L) (tt t))]{fullShare} ((oRowK L t).view.writes (Elt F) O0 [⟨Rect.whole S256x2x128, w⟩] : Buf (Elt F) (oLoc d)) : sProp 𝕄)
      = oPiece d (cL L) (jL L) (tt t) (gath TB IX) := by
  refine pointsTo_congr fun i hi => ?_
  rw [← set_oRowK] at hi
  obtain ⟨x, -, rfl⟩ := Finset.mem_map.mp hi
  rw [View.writes_singleton]
  have he : (oRowK L t).view.emb x = ((oRowK L t).view.slice (Rect.whole S256x2x128)).emb x := by
    rw [View.emb_slice]; show _ = (oRowK L t).view.emb ((Rect.whole S256x2x128).emb x); rw [Rect.emb_whole_apply]
  rw [he, View.write_emb_of_mem _ _ (Finset.mem_univ _), ← he, ← hw]
  rfl

set_option maxHeartbeats 4000000 in
/-- One trip of the loop: the piece of the trip goes from the launch contents to the gathered rows. -/
theorem trip (O : CellTallies nD τ sig (HIx 1)) (W : Waits sig (HIx 1)) (t : Fin k2_t1_loop.trips) (q : PosShare TreeShare)
    (hO : ∀ g, O g none = 0)
    {Q : Unit → sProp 𝕄} :
    iprop(levAts (K (F := F)).L (K (F := F)).lev
        ∗ iPts IX d q ∗ tPts TB d q ∗ oPiece d (cL L) (jL L) (tt t) O0
        ∗ (∃ f, (V d (cV L) (jV L)).loc cc2_scratch0 ↦{fullShare} f) ∗ (∃ f, (V d (cV L) (jV L)).loc cc2_scratch1 ↦{fullShare} f)
        ∗ semVal (cAcell d (cV L) (jV L)) 0 ∗ semVal (cBcell d (cV L) (jV L)) 0 ∗ semVal (cCcell d (cV L) (jV L)) 0
        ∗ (∃ W', ⌜∀ p ∈ W', p ∈ W ∨ p.2 = none⌝ ∗ owes (V d (cV L) (jV L)) O W')
        ∗ ((iPts IX d q ∗ tPts TB d q ∗ oPiece d (cL L) (jL L) (tt t) (gath TB IX)
            ∗ (∃ f, (V d (cV L) (jV L)).loc cc2_scratch0 ↦{fullShare} f) ∗ (∃ f, (V d (cV L) (jV L)).loc cc2_scratch1 ↦{fullShare} f)
            ∗ semVal (cAcell d (cV L) (jV L)) 0 ∗ semVal (cBcell d (cV L) (jV L)) 0 ∗ semVal (cCcell d (cV L) (jV L)) 0
            ∗ (∃ W', ⌜∀ p ∈ W', p ∈ W ∨ p.2 = none⌝ ∗ owes (V d (cV L) (jV L)) O W')) -∗ Q ⟨⟩))
      ⊢ wp frame (wpE (defs₀ (F := F)) 𝒱₀ (V d (cV L) (jV L)) none) Set.univ
          (k2_t1_body L tV (Memref.isWhole_whole _) iV (Memref.isWhole_whole _) oV (Memref.isWhole_whole _)
            sV (Memref.isWhole_whole _) rV (Memref.isWhole_whole _) cc2_scratch2 cc2_scoped0 cc2_scoped1 t ⟨⟩) Q := by
  unfold k2_t1_body
  have hlist : ∀ fs : Buf (Elt F) ((V d (cV L) (jV L)).loc cc2_scratch0),
      (sV).view.read (Elt F) (View.write (Elt F) (sV).view fs (idxPay (F := F) IX L t) Finset.univ) = idxPay (F := F) IX L t := fun fs =>
    View.read_write_univ _ _
  iintro ⟨#Hlv, Hi, Ht, Ho, ⟨%fs, Hs⟩, ⟨%fr, Hr⟩, HsemA, HsemB, HsemC, ⟨%W', %hW', HO⟩, HK⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L t _).symm) $$ Ho
  ihave Hi' := (Entails.of_eq (show (iPts IX d q : sProp 𝕄) = ((iV).view.loc (V d (cV L) (jV L)) ↦{q} IX) from rfl)) $$ Hi
  ihave Ht' := (Entails.of_eq (show (tPts TB d q : sProp 𝕄) = ((tV).view.loc (V d (cV L) (jV L)) ↦{q} TB) from rfl)) $$ Ht
  ihave Hs' := (Entails.of_eq (show ((V d (cV L) (jV L)).loc cc2_scratch0 ↦{fullShare} fs : sProp 𝕄) = ((sV).view.loc (V d (cV L) (jV L)) ↦{fullShare} fs) from rfl)) $$ Hs
  ihave Hr' := (Entails.of_eq (show ((V d (cV L) (jV L)).loc cc2_scratch1 ↦{fullShare} fr : sProp 𝕄) = ((rV).view.loc (V d (cV L) (jV L)) ↦{fullShare} fr) from rfl)) $$ Hr
  sl_exec
  ihave Hts := (pointsTo_split_subset (ℓ := tLoc d) (q := q) (f := (TB : Buf (Elt F) (tLoc d))) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (trip.sl.dma0 IX L t) Finset.univ : sProp 𝕄)
      = (sV).view.loc (V d (cV L) (jV L)) ↦[(sV).view.set]{fullShare} View.write (Elt F) (sV).view fs (trip.sl.dma0 IX L t) Finset.univ
      by rw [hss])) $$ Hs'
  have hN : ∀ h : S16384x2x128.Gathers 0 S256x2x128, ∑ j, ((rV).slice (S256x2x128.rowRect h.axis' j) (S256x2x128.stride_rowRect h.axis' j)).view.dmaCredit
      = (rV).view.dmaCredit := by decide
  iapply (SparseCore.wp_indirectGatherLocal countersEmb 𝒱₀ (V d (cV L) (jV L)) none (hg := gathers_S16384x2x128_S256x2x128) (default : HIx 1)
      (rV).view.dmaCredit (hN _) (by decide) (list_inb IX d L hIX t fs)) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Hts, Hs'⟩, HsemB, HO⟩
  ihave Ht' := (pointsTo_split_subset (ℓ := tLoc d) (q := q) (f := (TB : Buf (Elt F) (tLoc d))) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  iapply HK
  isplitl [Hi']; · iexact Hi'
  isplitl [Ht']; · iexact Ht'
  isplitl [Ho']
  · iapply (Entails.of_eq (piece_written TB IX O0 d L hIX t (trip.sl.dma0_1 TB IX d L hIX t fs fr) (fun x => by
      unfold trip.sl.dma0_1
      rw [ReadAs.apply_same, View.read_write_univ]
      exact gath_emb TB IX L hIX t _ (hlist fs) _ (list_inb IX d L hIX t fs) x)))
    iapply (Entails.of_eq (pts_oRowK (F := F) d L t _)); iexact Ho'
  isplitl [Hs3]; · iexists _; iexact Hs3
  isplitl [Hr3]; · iexists _; iexact Hr3
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The pieces of a tile after `n` trips: the trips done hold the gathered rows. -/
abbrev oAt (n : ℕ) : sProp 𝕄 :=
  bigSep Finset.univ fun t : Fin 32 => oPiece d (cL L) (jL L) t (if t.val < n then gath TB IX else O0)

/-- Before trip `n`. -/
def loopInv (O : CellTallies nD τ sig (HIx 1)) (W : Waits sig (HIx 1)) (n : ℕ) : sProp 𝕄 :=
  iprop(levAts (K (F := F)).L (K (F := F)).lev
        ∗ iPts IX d (tq (cL L) (jL L)) ∗ tPts TB d (tq (cL L) (jL L)) ∗ oAt TB IX O0 d L n
        ∗ (∃ f, (V d (cV L) (jV L)).loc cc2_scratch0 ↦{fullShare} f) ∗ (∃ f, (V d (cV L) (jV L)).loc cc2_scratch1 ↦{fullShare} f)
        ∗ semVal (cAcell d (cV L) (jV L)) 0 ∗ semVal (cBcell d (cV L) (jV L)) 0 ∗ semVal (cCcell d (cV L) (jV L)) 0
        ∗ (∃ W', ⌜∀ p ∈ W', p ∈ W ∨ p.2 = none⌝ ∗ owes (V d (cV L) (jV L)) O W'))

theorem loop_step (O : CellTallies nD τ sig (HIx 1)) (W : Waits sig (HIx 1)) (hO : ∀ g, O g none = 0) (t : Fin k2_t1_loop.trips) :
    loopInv TB IX O0 d L O W t.val ⊢ wp frame (wpE (defs₀ (F := F)) 𝒱₀ (V d (cV L) (jV L)) none) Set.univ
          (k2_t1_body L tV (Memref.isWhole_whole _) iV (Memref.isWhole_whole _) oV (Memref.isWhole_whole _)
            sV (Memref.isWhole_whole _) rV (Memref.isWhole_whole _) cc2_scratch2 cc2_scoped0 cc2_scoped1 t ⟨⟩)
          (fun _ => loopInv TB IX O0 d L O W (t.val + 1)) := by
  unfold loopInv
  iintro ⟨#Hlv, Hi, Ht, Ho, Hs, Hr, HsemA, HsemB, HsemC, HO⟩
  ihave Ho' := (Entails.of_eq (SparseCore.bigSep_erase' (Finset.mem_univ (tt t)))) $$ Ho
  icases Ho' with ⟨Hp, Hrest⟩
  iapply (trip TB IX O0 d L hIX O W t (tq (cL L) (jL L)) hO)
  isplitr; · iexact Hlv
  isplitl [Hi]; · iexact Hi
  isplitl [Ht]; · iexact Ht
  isplitl [Hp]
  · iapply (Entails.of_eq (by rw [if_neg (show ¬ (tt t).val < t.val from Nat.lt_irrefl _)] :
        (oPiece d (cL L) (jL L) (tt t) (if (tt t).val < t.val then gath TB IX else O0) : sProp 𝕄) = oPiece d (cL L) (jL L) (tt t) O0)); iexact Hp
  isplitl [Hs]; · iexact Hs
  isplitl [Hr]; · iexact Hr
  isplitl [HsemA]; · iexact HsemA
  isplitl [HsemB]; · iexact HsemB
  isplitl [HsemC]; · iexact HsemC
  isplitl [HO]; · iexact HO
  iintro ⟨Hi, Ht, Hp, Hs, Hr, HsemA, HsemB, HsemC, HO⟩
  isplitr; · iexact Hlv
  isplitl [Hi]; · iexact Hi
  isplitl [Ht]; · iexact Ht
  isplitl [Hp Hrest]
  · iapply (Entails.of_eq (SparseCore.bigSep_erase' (Finset.mem_univ (tt t))).symm)
    isplitl [Hp]
    · iapply (Entails.of_eq (by rw [if_pos (show (tt t).val < t.val + 1 from Nat.lt_succ_self _)] :
        (oPiece d (cL L) (jL L) (tt t) (gath TB IX) : sProp 𝕄) = oPiece d (cL L) (jL L) (tt t) (if (tt t).val < t.val + 1 then gath TB IX else O0))); iexact Hp
    · iapply (Entails.of_eq (bigSep_congr fun t' ht' => by
        have hne : t'.val ≠ t.val := fun h => (Finset.mem_erase.mp ht').1 (Fin.ext h)
        simp only [show (t'.val < t.val + 1) = (t'.val < t.val) from propext (by omega)] :
        (bigSep (Finset.univ.erase (tt t)) fun t' : Fin 32 => oPiece d (cL L) (jL L) t' (if t'.val < t.val then gath TB IX else O0) : sProp 𝕄)
          = bigSep (Finset.univ.erase (tt t)) fun t' : Fin 32 => oPiece d (cL L) (jL L) t' (if t'.val < t.val + 1 then gath TB IX else O0))); iexact Hrest
  isplitl [Hs]; · iexact Hs
  isplitl [Hr]; · iexact Hr
  isplitl [HsemA]; · iexact HsemA
  isplitl [HsemB]; · iexact HsemB
  isplitl [HsemC]; · iexact HsemC
  iexact HO

/-- The task of tile `L`: 32 trips. -/
theorem tile_body (O : CellTallies nD τ sig (HIx 1)) (W : Waits sig (HIx 1)) (hO : ∀ g, O g none = 0) :
    iprop(levAts (K (F := F)).L (K (F := F)).lev ∗ emp
        ∗ (iPts IX d (tq (cL L) (jL L)) ∗ tPts TB d (tq (cL L) (jL L)) ∗ oTile d (cL L) (jL L) O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_k L tV (Memref.isWhole_whole _) iV (Memref.isWhole_whole _) oV (Memref.isWhole_whole _)
            sV (Memref.isWhole_whole _) rV (Memref.isWhole_whole _) cc2_scratch2 cc2_scoped0 cc2_scoped1)
          fun _ => iprop((iPts IX d (tq (cL L) (jL L)) ∗ tPts TB d (tq (cL L) (jL L)) ∗ oTile d (cL L) (jL L) (gath TB IX))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_k_eq_skeleton]; unfold cc2_gather_k_skel
  rw [(K (F := F)).scopedBufs_V facts d (cV L) (jV L), SparseCore.Cfg.scopedSems0_V (Val := Elt F) d (cV L) (jV L), ownSems0_V, ownBufs_V]
  iintro ⟨#Hlv, -, ⟨Hi, Ht, Ho⟩, ⟨Hs, Hr, Hbufs⟩, ⟨HsemA, HsemB, HsemC, Hsems⟩, HO⟩
  iapply (Scf.wp_for_bind frame (wpE (defs₀ (F := F)) 𝒱₀ (V d (cV L) (jV L)) none) Set.univ _ _ _ k2_t1_ok _ _
    (fun n _ => loopInv TB IX O0 d L O W n)
    (fun t _ => loop_step TB IX O0 d L hIX O W hO t)) $$ [Hi Ht Ho Hs Hr HsemA HsemB HsemC HO]
  · unfold loopInv
    isplitr; · iexact Hlv
    isplitl [Hi]; · iexact Hi
    isplitl [Ht]; · iexact Ht
    isplitl [Ho]
    · iapply (Entails.of_eq (bigSep_congr fun t _ => by rw [if_neg (Nat.not_lt_zero _)] : (oTile d (cL L) (jL L) O0 : sProp 𝕄) = oAt TB IX O0 d L 0)); iexact Ho
    isplitl [Hs]; · iexact Hs
    isplitl [Hr]; · iexact Hr
    isplitl [HsemA]; · iexact HsemA
    isplitl [HsemB]; · iexact HsemB
    isplitl [HsemC]; · iexact HsemC
    iexists W; isplitr
    · ipureintro; exact fun p hp => .inl hp
    · iexact HO
  iintro %_ H
  unfold loopInv
  icases H with ⟨-, Hi, Ht, Ho, Hs, Hr, HsemA, HsemB, HsemC, HO⟩
  sl_step
  isplitl [Hi Ht Ho]
  · isplitl [Hi]; · iexact Hi
    isplitl [Ht]; · iexact Ht
    iapply (Entails.of_eq (bigSep_congr fun t _ => by rw [if_pos (show t.val < k2_t1_loop.trips by rw [trips_eq]; exact t.isLt)] : oAt TB IX O0 d L k2_t1_loop.trips = (oTile d (cL L) (jL L) (gath TB IX) : sProp 𝕄))); iexact Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HO

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

omit hIX in
theorem defs₀_vector (c : Fin τ.nSC) (s : Fin τ.nSub) :
    defs₀ (F := F) (.scVector c s) 2 ()
      = SparseCore.onTile hcore2 hsub2 (fun c s => cc2_gather_k (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

omit [FloatOps F] [Named F] hIX in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P TB IX O0) v₀ 0 := by
  intro d c i O W hO _ _
  simp only [show (P TB IX O0).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body TB IX O0 d (coordsV ⟨_, hci.1⟩ ⟨_, hci.2⟩) hIX O W hO).trans (wp_mono frame _ _ fun _ => obl_post)

end Tile

end Contents

end Cert.Proof.RI

end
-- ==== Proof.RI.Region.lean ====
/-
  A region of the main program on the TensorCore, between stretches that hold every unscoped buffer at a valuation.
  The SparseCore call later in the program asks that what the core has waited on so far sits low, so the regions here
  carry that bound through: `lowOwes d n` is what core `d` owes before call `n` with everything it recorded below that
  call's levels.
-/
module

public import proofs.«01_k».proof.Proof.RI.Tile
public import proofs.«01_k».proof.Proof.Gen.KernelIdeal.Launch
public import Idealize.ShloMosaic.Lib.Pipeline.RegionArraysS

@[expose] public section

noncomputable section

namespace Cert.Proof.RI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose afterRegion arrRef arrRefs ucRefs pin scopedRest)

variable {F : FTy → Type}

local notation "𝕄" => MT nD τ sig (HIx 1) (Elt F) ℕ UU ℕ

/-- The pipelines' rounds sit second in the certificate's algebra. -/
abbrev EP : Emb UP (MT nD τ sig (HIx 1) (Elt F) ℕ UU ℕ) := (Emb.inl : Emb UP (UP × Counters)).trans embR

/-- No region prefetches a table. -/
abbrev adm : (p : Fin 3) → (pcfgs (F := F) p).Adm := fun p => (cfgs p).toPCfg_adm

theorem pinj : Function.Injective (Pipeline.cellOf (nD := nD) (τ := τ) (pin (pcfgs (F := F)) adm)) := cellOf_inj

/-- The (semaphore, index) pairs that sit at most at level `B` on core `d`. -/
def low (d : Dev nD) (B : ℕ) : Set (SemLoc sig × HIx 1) := {p | (K (F := F)).lev ((d : Thread nD τ), p.1) p.2 ≤ B}

/-- What core `d` owes before call `n`, with every recorded wait at most at the call's first level. -/
def lowOwes (d : Dev nD) (n : ℕ) : sProp 𝕄 :=
  iprop(∃ W, ⌜(K (F := F)).WBelow (SparseCore.T d) W (8 * n)⌝ ∗ owes (SparseCore.T d) ((K (F := F)).Otc d n) W)

theorem Otc_none (d : Dev nD) (n : ℕ) (g : GSem nD τ sig) : (K (F := F)).Otc (N := 1) d n g none = 0 := by
  by_contra h
  have := (K (F := F)).lev_of_Otc_pos (Nat.pos_of_ne_zero h)
  simp [SparseCore.Cfg.lev] at this

variable [FloatOps F] [Named F]

section Region

variable (pdats : (p : Fin 3) → (c : Dev nD) → Dat τ (Elt F) (HIx 1) ℕ UU ℕ (pin (pcfgs (F := F)) adm p) c) (p : Fin 3) (n : ℕ)

/-- The region of pipeline `p` before call `n`, from every unscoped buffer at `W c` to them at `afterRegion`. -/
def region (kit : Pipeline.PLaunchFacts (nD := nD) (τ := τ) (pcfgs (F := F)) p)
    (hbody : ∀ c, BodyObligationLoose (pdats p c) defs₀ 𝒱₀ none Set.univ)
    (howed : ∀ c t, (pdats p c).owed t = (K (F := F)).Otc c n) (hrec : ∀ c t, (pdats p c).recorded t = low (F := F) c (8 * n))
    (hshare : ∀ c w, (pdats p c).share w = fullShare)
    (hΦ : ∀ c t, (pdats p c).Φ t = scopedRest (pin (pcfgs (F := F)) adm p).spec c)
    (hS : arrRefs (τ := τ) (pcfgs (F := F) p).spec ⊆ ucRefs τ sig)
    (W : Dev nD → Valuation τ sig (Elt F))
    (hW : ∀ c w, (pdats p c).arrAt w 0 = W c (Proc.devRef .tc (arrRef (pin (pcfgs (F := F)) adm p).spec w))) :
    Pipeline.RegionSeg (pcfgs (F := F)) adm pdats none defs₀ 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_intro (pin (pcfgs (F := F)) adm) pdats none p c fun w s t => by
    rw [howed c t]; exact (K (F := F)).mayWait_none _ (Otc_none c n)
  pre c := iprop(StableHlo.held (c.tc : Thread nD τ) (ucRefs τ sig) (W c) ∗ lowOwes c n)
  post c := iprop(StableHlo.held (c.tc : Thread nD τ) (ucRefs τ sig) (afterRegion (pdats p c) (W c)) ∗ lowOwes c n)
  X _ := BI.emp
  Y _ := BI.emp
  Z c := StableHlo.held (c.tc : Thread nD τ) (ucRefs τ sig \ arrRefs (pcfgs (F := F) p).spec) (W c)
  hentry c := by
    rw [Pipeline.ownSems0_none, Pipeline.prefHeld_of_none _ rfl, StableHlo.held_sub_split (c.tc : Thread nD τ) hS (W c),
      ← Pipeline.arrays_held (pcfgs (F := F)) adm pdats p kit c (hshare c) ((pdats p c).arrAt · 0) (W c) (hW c)]
    unfold lowOwes
    iintro ⟨⟨⟨Ha, Hr⟩, ⟨%Wd, %hWd, HO⟩⟩, -, -⟩
    imodintro
    isplitl [Ha]; · iexact Ha
    isplitr; · iempintro
    isplitl [HO]
    · unfold Dat.owesAt Pipeline.owesWithin Dat.bound
      rw [howed c 0, hrec c 0]
      iexists Wd
      isplitr; · ipureintro; exact fun q hq => Or.inl (hWd q hq)
      iexact HO
    isplitr; · iempintro
    iexact Hr
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    rw [StableHlo.held_sub_split (c.tc : Thread nD τ) hS (afterRegion (pdats p c) (W c)),
      StableHlo.held_congr (c.tc : Thread nD τ) (S := ucRefs τ sig \ arrRefs (pcfgs (F := F) p).spec) (V := afterRegion (pdats p c) (W c)) (V' := W c)
        (Pipeline.afterRegion_off (pdats p c) (W c) _),
      ← Pipeline.arrays_held (pcfgs (F := F)) adm pdats p kit c (hshare c) ((pdats p c).arrAt · (pin (pcfgs (F := F)) adm p).N) (afterRegion (pdats p c) (W c))
        (fun w => (Pipeline.afterRegion_arr (pdats p c) (W c) kit.win.arr_inj w).symm)]
    unfold lowOwes Dat.owesAt Pipeline.owesWithin Dat.bound
    rw [howed c (Fin.last _), hrec c (Fin.last _)]
    iintro ⟨Ha, ⟨%Wd, %hWd, HO⟩, -, Hr⟩
    imodintro
    isplitl [Ha Hr]
    · isplitl [Ha]; · iexact Ha
      iexact Hr
    iexists Wd
    isplitr
    · ipureintro
      intro q hq
      rcases hWd hq with h | ⟨w, s, h⟩
      · exact h
      · rw [h]; exact Nat.zero_le _
    iexact HO

/-- The region's call in the main program's own signature. -/
theorem region_wp (κ : GSem nD τ sig → ℕ) (Pp : (K (F := F)).Pay (nD := nD) (N := 1) (Val := Elt F) (Name := ℕ) (U := UU))
    (R : Pipeline.RegionSeg (pcfgs (F := F)) adm pdats none defs₀ 𝒱₀ (K (F := F)).L (K (F := F)).lev p) (c : Dev nD) (Φ : PUnit → sProp 𝕄) :
    iprop((K (F := F)).ctx EH Pp κ ∗ boundary (c.tc : Thread nD τ) ∗ R.pre c
        ∗ Pipeline.cellsGhost (pin (pcfgs (F := F)) adm) EP p c ∗ Pipeline.toksInit (pin (pcfgs (F := F)) adm) EP p c
        ∗ (iprop(boundary (c.tc : Thread nD τ) ∗ R.post c) -∗ Φ ⟨⟩))
      ⊢ wp frame (wpE ((K (F := F)).defs D) 𝒱 (SparseCore.T c) none) Set.univ
          (Prog.lift (.customCall (SparseCore.inner (Pipeline.entry p)) ())) Φ := by
  have h := Pipeline.RegionSeg.wp (pcs := pcfgs (F := F)) (a := adm) (pdats := pdats) (ι := none) pinj EP defs₀ 𝒱₀ (K (F := F)).L (K (F := F)).lev R c none
    (by intro u hu; simp at hu) (fun _ => Pure.pure ⟨⟩) Φ
  refine BIBase.Entails.trans ?_ ((K (F := F)).wp_liftProg D 𝒱 (SparseCore.T c) Set.univ none (Prog.lift (.customCall (Pipeline.entry p) ())) Φ)
  refine BIBase.Entails.trans ?_ h
  iintro ⟨Hctx, Hb, Hpre, Hg, Ht, Hk⟩
  isplitl [Hk]
  · iintro ⟨Hb, Hp⟩
    rw [wp_pure]
    imodintro
    iapply Hk
    isplitl [Hb]; · iexact Hb
    iexact Hp
  isplitl [Hb]; · iexact Hb
  isplitl [Hpre]; · iexact Hpre
  isplitl [Hctx]; · iapply ((K (F := F)).ctx_levAts κ); iexact Hctx
  isplitl [Hg]; · iexact Hg
  iexact Ht

end Region

end Cert.Proof.RI

end
-- ==== Proof.RI.Kv.lean ====
/-
  The projection of the states to keys and values, one TensorCore call over two points: what its body leaves in the
  result's buffer, and the proof data of its pipeline entered from any contents of the buffers.
-/
module

public import proofs.«01_k».proof.Proof.RI.Region
public import proofs.«01_k».proof.Proof.Gen.KernelIdeal.Points
public import Idealize.ShloMosaic.Lib.Pipeline.FrameBody

@[expose] public section

set_option maxRecDepth 16384

noncomputable section

namespace Cert.Proof.RI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation arrRef scopedRest)

variable {F : FTy → Type} [FloatOps F] [Named F]

local notation "𝕄" => MT nD τ sig (HIx 1) (Elt F) ℕ UU ℕ

/-! ## What the body leaves -/

abbrev kvR3 : Rect S1x1024x1024 := Rect.unit (s := S1x1024x1024) ![0, 0, 0] S1x1024x1024.size inb_S1x1024x1024_S1x1024x1024_0_0_0
abbrev kvR2 : Rect S1024x1024 := Rect.unit (s := S1024x1024) ![0, 0] S1024x1024.size inb_S1024x1024_S1024x1024_0_0
abbrev kvR1 : Rect S1x1024 := Rect.unit (s := S1x1024) ![0, 0] S1x1024.size inb_S1x1024_S1x1024_0_0
abbrev kvLo : Rect S1x1024x2048 := Rect.unit (s := S1x1024x2048) ![0, 0, 0] S1x1024x1024.size inb_S1x1024x2048_S1x1024x1024_0_0_0
abbrev kvHi : Rect S1x1024x2048 := Rect.unit (s := S1x1024x2048) ![0, 0, 1024] S1x1024x1024.size inb_S1x1024x2048_S1x1024x1024_0_0_1024

/-- The result's buffer after the body: the keys in the left half of the columns, the values in the right. -/
def kvOut (st : Vec F S1x1024x1024 .f32) (kw vw : Vec F S1024x1024 .f32) (kb vb : Vec F S1x1024 .f32) : Vec F S1x1024x2048 .f32 :=
  View.canon [⟨kvHi, k1_pay3 (View.ld st kvR3) (View.ld vw kvR2) (View.ld vb kvR1)⟩,
    ⟨kvLo, k1_pay2 (View.ld st kvR3) (View.ld kw kvR2) (View.ld kb kvR1)⟩]

theorem kv_cover (hi lo : Vec F S1x1024x1024 .f32) (y : S1x1024x2048.Idx) :
    ∃ pc ∈ ([⟨kvHi, hi⟩, ⟨kvLo, lo⟩] : List (View.Piece (Elt F) S1x1024x2048 .f32)), y ∈ pc.1.set :=
  View.cover_of_tiled [⟨kvHi, hi⟩, ⟨kvLo, lo⟩] S1x1024x1024.size (by rfl) y

set_option maxHeartbeats 1000000 in
/-- The body on whole buffers, the inputs' at what they read, leaves `kvOut` of them in the result's. -/
theorem kv_body (c : Dev nD) (E : Set ℕ) (i : grid1.Coords) (a1 : Memref sig .tc .vmem S1x1024x1024 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024x2048 .f32) (h6 : a6.IsWhole)
    (st : Vec F S1x1024x1024 .f32) (kw vw : Vec F S1024x1024 .f32) (kb vb : Vec F S1x1024 .f32) (Q : PUnit → sProp 𝕄) :
    iprop(owns (c : Thread nD τ) a1 fullShare st ∗ owns (c : Thread nD τ) a2 fullShare kw ∗ owns (c : Thread nD τ) a3 fullShare vw
        ∗ owns (c : Thread nD τ) a4 fullShare kb ∗ owns (c : Thread nD τ) a5 fullShare vb ∗ (∃ d, owns (c : Thread nD τ) a6 fullShare d)
        ∗ (iprop(owns (c : Thread nD τ) a1 fullShare st ∗ owns (c : Thread nD τ) a2 fullShare kw ∗ owns (c : Thread nD τ) a3 fullShare vw
            ∗ owns (c : Thread nD τ) a4 fullShare kb ∗ owns (c : Thread nD τ) a5 fullShare vb
            ∗ owns (c : Thread nD τ) a6 fullShare (kvOut st kw vw kb vb)) -∗ Q ⟨⟩))
      ⊢ wp frame (wpE (defs₀ (F := F)) 𝒱₀ c none) E (cc1__kv_body i a1 h1 a2 h2 a3 h3 a4 h4 a5 h5 a6 h6) Q := by
  simp only [cc1__kv_body_eq_skeleton]; unfold cc1__kv_body_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; · (iexists f1; isplitr; · ipureintro; rfl); iexact H1
  isplitl [H2]; · (iexists f2; isplitr; · ipureintro; rfl); iexact H2
  isplitl [H3]; · (iexists f3; isplitr; · ipureintro; rfl); iexact H3
  isplitl [H4]; · (iexists f4; isplitr; · ipureintro; rfl); iexact H4
  isplitl [H5]; · (iexists f5; isplitr; · ipureintro; rfl); iexact H5
  iexists _
  isplitr
  swap; · iexact H6
  ipureintro
  exact View.read_writes_eq_canon _ _ _ (kv_cover _ _)

/-! ## The proof data -/

section Data

variable (W : Dev nD → Valuation τ sig (Elt F))

/-- Window `w`'s block at point `t`, at the contents the region is entered from. -/
def kvBlk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (arrRef spec1 w)))

/-- The proof data: arrays as found, inputs' buffers at their blocks, the result's at `kvOut`, nothing else touched. -/
def kvDat (c : Dev nD) : Dat τ (Elt F) (HIx 1) ℕ UU ℕ cfg1 c where
  A w := W c (Proc.devRef .tc (arrRef spec1 w))
  after w t := match w with
    | ⟨0, _⟩ => kvBlk W c 0 t
    | ⟨1, _⟩ => kvBlk W c 1 t
    | ⟨2, _⟩ => kvBlk W c 2 t
    | ⟨3, _⟩ => kvBlk W c 3 t
    | ⟨4, _⟩ => kvBlk W c 4 t
    | ⟨5, _⟩ => kvOut (kvBlk W c 0 t) (kvBlk W c 1 t) (kvBlk W c 2 t) (kvBlk W c 3 t) (kvBlk W c 4 t)
  Φ _ := scopedRest spec1 c
  q _ := fullShare
  owed _ := (K (F := F)).Otc c 0
  recorded _ := low (F := F) c (8 * 0)

theorem kvA (c : Dev nD) (w : Fin cfg1.W) : (kvDat W c).A w = W c (Proc.devRef .tc (arrRef spec1 w)) := by dsimp only [kvDat]

/-- An input's buffer holds its block at every point, when the body leaves that block in place. -/
theorem kv_before (c : Dev nD) (w : Fin cfg1.W) (hin : (cfg1.win w).isOut = false)
    (hclip : ∀ t t' : Fin cfg1.N, (cfg1.win w).clip (cfg1.grid.coords t) = (cfg1.win w).clip (cfg1.grid.coords t'))
    (hcut : ∀ t, (cfg1.win w).cut (cfg1.grid.coords t) ((kvDat W c).after w t) = kvBlk W c w t) (t : Fin cfg1.N) (d) :
    (kvDat W c).before w t d = (kvDat W c).fetched w t d :=
  (kvDat W c).before_in_eq_fetched w hin (fun _ => rfl) (fun t t' _ => hclip t t')
    (fun t => by rw [hcut t]; unfold Dat.blockOf kvBlk; rw [kvA]) t d

theorem kv_before0 (c : Dev nD) (t : Fin cfg1.N) (d) : (kvDat W c).before 0 t d = kvBlk W c 0 t :=
  (kv_before W c 0 rfl (fun _ _ => rfl) (fun t => by dsimp only [kvDat]) t d).trans (by unfold Dat.fetched Dat.blockOf kvBlk; rw [kvA]; rfl)
theorem kv_before1 (c : Dev nD) (t : Fin cfg1.N) (d) : (kvDat W c).before 1 t d = kvBlk W c 1 t :=
  (kv_before W c 1 rfl (fun _ _ => rfl) (fun t => by dsimp only [kvDat]) t d).trans (by unfold Dat.fetched Dat.blockOf kvBlk; rw [kvA]; rfl)
theorem kv_before2 (c : Dev nD) (t : Fin cfg1.N) (d) : (kvDat W c).before 2 t d = kvBlk W c 2 t :=
  (kv_before W c 2 rfl (fun _ _ => rfl) (fun t => by dsimp only [kvDat]) t d).trans (by unfold Dat.fetched Dat.blockOf kvBlk; rw [kvA]; rfl)
theorem kv_before3 (c : Dev nD) (t : Fin cfg1.N) (d) : (kvDat W c).before 3 t d = kvBlk W c 3 t :=
  (kv_before W c 3 rfl (fun _ _ => rfl) (fun t => by dsimp only [kvDat]) t d).trans (by unfold Dat.fetched Dat.blockOf kvBlk; rw [kvA]; rfl)
theorem kv_before4 (c : Dev nD) (t : Fin cfg1.N) (d) : (kvDat W c).before 4 t d = kvBlk W c 4 t :=
  (kv_before W c 4 rfl (fun _ _ => rfl) (fun t => by dsimp only [kvDat]) t d).trans (by unfold Dat.fetched Dat.blockOf kvBlk; rw [kvA]; rfl)

theorem kv_row (t : Fin cfg1.N) : defs₀ (F := F) .tc cfg1.body (cfg1.bodyArgs t (cfg1.slots t)) = bodyAt1 t := rfl

/-- The body at any point. -/
theorem kv_sound (c : Dev nD) (t : Fin cfg1.N) :
    iprop((kvDat W c).Φ t.castSucc ∗ (kvDat W c).owesAt none t.castSucc
      ∗ (∃ d, owns (c : Thread nD τ) (st1_0 t) fullShare ((kvDat W c).before 0 t d))
      ∗ (∃ d, owns (c : Thread nD τ) (st1_1 t) fullShare ((kvDat W c).before 1 t d))
      ∗ (∃ d, owns (c : Thread nD τ) (st1_2 t) fullShare ((kvDat W c).before 2 t d))
      ∗ (∃ d, owns (c : Thread nD τ) (st1_3 t) fullShare ((kvDat W c).before 3 t d))
      ∗ (∃ d, owns (c : Thread nD τ) (st1_4 t) fullShare ((kvDat W c).before 4 t d))
      ∗ (∃ d, owns (c : Thread nD τ) (st1_5 t) fullShare ((kvDat W c).before 5 t d)))
    ⊢ wp frame (wpE (defs₀ (F := F)) 𝒱₀ c none) Set.univ (bodyAt1 t) fun _ =>
      iprop((kvDat W c).Φ t.succ ∗ (kvDat W c).owesAt none t.succ
      ∗ owns (c : Thread nD τ) (st1_0 t) fullShare ((kvDat W c).after 0 t)
      ∗ owns (c : Thread nD τ) (st1_1 t) fullShare ((kvDat W c).after 1 t)
      ∗ owns (c : Thread nD τ) (st1_2 t) fullShare ((kvDat W c).after 2 t)
      ∗ owns (c : Thread nD τ) (st1_3 t) fullShare ((kvDat W c).after 3 t)
      ∗ owns (c : Thread nD τ) (st1_4 t) fullShare ((kvDat W c).after 4 t)
      ∗ owns (c : Thread nD τ) (st1_5 t) fullShare ((kvDat W c).after 5 t)) := by
  unfold bodyAt1
  simp only [kv_before0, kv_before1, kv_before2, kv_before3, kv_before4]
  rw [show (kvDat W c).Φ t.succ = (kvDat W c).Φ t.castSucc from rfl,
    show (kvDat W c).owesAt none t.succ = (kvDat W c).owesAt none t.castSucc from rfl]
  iintro ⟨HΦ, Ho, ⟨%d0, H0⟩, ⟨%d1, H1⟩, ⟨%d2, H2⟩, ⟨%d3, H3⟩, ⟨%d4, H4⟩, ⟨%d5, H5⟩⟩
  iapply (kv_body c Set.univ (grid1.coords t) _ _ _ _ _ _ _ _ _ _ _ _ (kvBlk W c 0 t) (kvBlk W c 1 t) (kvBlk W c 2 t) (kvBlk W c 3 t) (kvBlk W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · dsimp only [kvDat]; iexact H0
  isplitl [H1]; · dsimp only [kvDat]; iexact H1
  isplitl [H2]; · dsimp only [kvDat]; iexact H2
  isplitl [H3]; · dsimp only [kvDat]; iexact H3
  isplitl [H4]; · dsimp only [kvDat]; iexact H4
  dsimp only [kvDat]; iexact H5

theorem kv_obligation (c : Dev nD) : BodyObligation (kvDat W c) (defs₀ (F := F)) 𝒱₀ none Set.univ := fun t => by
  rw [bigSep_W1, bigSep_W1, kv_row]
  exact triple_restated (kv_sound W c t) rfl .rfl fun _ => .rfl

end Data

end Cert.Proof.RI

end
-- ==== Proof.RI.Attn.lean ====
/-
  The attention over the gathered rows, one TensorCore call over sixteen points: what its body leaves in the two
  results' buffers, and the proof data of its pipeline entered from any contents of the buffers.
-/
module

public import proofs.«01_k».proof.Proof.RI.Region
public import proofs.«01_k».proof.Proof.Gen.KernelIdeal.Points
public import Idealize.ShloMosaic.Lib.Pipeline.FrameBody

@[expose] public section

set_option maxRecDepth 16384

noncomputable section

namespace Cert.Proof.RI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation arrRef scopedRest)

variable {F : FTy → Type} [FloatOps F] [Named F]

local notation "𝕄" => MT nD τ sig (HIx 1) (Elt F) ℕ UU ℕ

/-! ## What the body leaves -/

abbrev atQ : Rect S1x256x1024 := Rect.unit (s := S1x256x1024) ![0, 0, 0] S1x256x1024.size inb_S1x256x1024_S1x256x1024_0_0_0
abbrev atKv : Rect S2048x2048 := Rect.unit (s := S2048x2048) ![0, 0] S2048x2048.size inb_S2048x2048_S2048x2048_0_0
abbrev atWt : Rect S1024x1024 := Rect.unit (s := S1024x1024) ![0, 0] S1024x1024.size inb_S1024x1024_S1024x1024_0_0
abbrev atB : Rect S1x1024 := Rect.unit (s := S1x1024) ![0, 0] S1x1024.size inb_S1x1024_S1x1024_0_0
abbrev atAt : Rect S1x2048x16 := Rect.unit (s := S1x2048x16) ![0, 0, 0] S1x2048x16.size inb_S1x2048x16_S1x2048x16_0_0_0

/-- The block of the weights the body computes, from its queries and gathered rows. -/
def atWeights (q : Vec F S1x256x1024 .f32) (kv : Vec F S2048x2048 .f32) : FVec F S2048x16 .f32 :=
  k3_pay11 (k3_pay2 q) (k3_pay3 kv) k3_pay4 k3_pay9

/-- The result's block, from the queries, the gathered rows and the output projection. -/
def atResult (q : Vec F S1x256x1024 .f32) (kv : Vec F S2048x2048 .f32) (ow : Vec F S1024x1024 .f32) (ob : Vec F S1x1024 .f32) :
    FVec F S1x256x1024 .f32 :=
  k3_pay1 (k3_pay3 kv)
    (k3_pay8 (iota .tc S16x1024 32 [0] iota_S16x1024_d0_w32) (iota .tc S16x1024 32 [1] iota_S16x1024_d1_w32) 64#32 k3_pay5 k3_pay6 k3_pay7)
    k3_pay10 (atWeights q kv) ow ob

/-- The result's buffer after the body. -/
def atOut (q : Vec F S1x256x1024 .f32) (kv : Vec F S2048x2048 .f32) (ow : Vec F S1024x1024 .f32) (ob : Vec F S1x1024 .f32) : Vec F S1x256x1024 .f32 :=
  View.canon [⟨atQ, atResult (View.ld q atQ) (View.ld kv atKv) (View.ld ow atWt) (View.ld ob atB)⟩]

/-- The weights' buffer after the body. -/
def atAttn (q : Vec F S1x256x1024 .f32) (kv : Vec F S2048x2048 .f32) : Vec F S1x2048x16 .f32 :=
  View.canon [⟨atAt, k3_pay12 (k3_pay2 (View.ld q atQ)) (k3_pay3 (View.ld kv atKv)) k3_pay4 k3_pay9⟩]

theorem atOut_cover (u : Vec F S1x256x1024 .f32) (y : S1x256x1024.Idx) :
    ∃ pc ∈ ([⟨atQ, u⟩] : List (View.Piece (Elt F) S1x256x1024 .f32)), y ∈ pc.1.set :=
  View.cover_of_tiled [⟨atQ, u⟩] S1x256x1024.size (by rfl) y

theorem atAttn_cover (u : Vec F S1x2048x16 .f32) (y : S1x2048x16.Idx) :
    ∃ pc ∈ ([⟨atAt, u⟩] : List (View.Piece (Elt F) S1x2048x16 .f32)), y ∈ pc.1.set :=
  View.cover_of_tiled [⟨atAt, u⟩] S1x2048x16.size (by rfl) y

set_option maxHeartbeats 2000000 in
/-- The body on whole buffers, the inputs' at what they read, leaves the two results of them in the results' buffers. -/
theorem at_body (c : Dev nD) (E : Set ℕ) (i : grid3.Coords)
    (a0 : Memref sig .tc .vmem S1x256x1024 .f32) (h0 : a0.IsWhole)
    (a1 : Memref sig .tc .vmem S2048x2048 .f32) (h1 : a1.IsWhole)
    (a2 : Memref sig .tc .vmem S1024x1024 .f32) (h2 : a2.IsWhole)
    (a3 : Memref sig .tc .vmem S1x1024 .f32) (h3 : a3.IsWhole)
    (a4 : Memref sig .tc .vmem S1x256x1024 .f32) (h4 : a4.IsWhole)
    (a5 : Memref sig .tc .vmem S1x2048x16 .f32) (h5 : a5.IsWhole)
    (q : Vec F S1x256x1024 .f32) (kv : Vec F S2048x2048 .f32) (ow : Vec F S1024x1024 .f32) (ob : Vec F S1x1024 .f32) (Q : PUnit → sProp 𝕄) :
    iprop(owns (c : Thread nD τ) a0 fullShare q ∗ owns (c : Thread nD τ) a1 fullShare kv ∗ owns (c : Thread nD τ) a2 fullShare ow ∗ owns (c : Thread nD τ) a3 fullShare ob ∗
        (∃ d, owns (c : Thread nD τ) a4 fullShare d) ∗ (∃ d, owns (c : Thread nD τ) a5 fullShare d) ∗
        (iprop(owns (c : Thread nD τ) a0 fullShare q ∗ owns (c : Thread nD τ) a1 fullShare kv ∗ owns (c : Thread nD τ) a2 fullShare ow ∗ owns (c : Thread nD τ) a3 fullShare ob ∗
            owns (c : Thread nD τ) a4 fullShare (atOut q kv ow ob) ∗ owns (c : Thread nD τ) a5 fullShare (atAttn q kv)) -∗ Q ⟨⟩))
      ⊢ wp frame (wpE (defs₀ (F := F)) 𝒱₀ c none) E (cc3__attn_body i a0 h0 a1 h1 a2 h2 a3 h3 a4 h4 a5 h5) Q := by
  simp only [cc3__attn_body_eq_skeleton]; unfold cc3__attn_body_skel
  simp only [k3_part1_eq_skeleton, k3_part2_eq_skeleton, k3_part3_eq_skeleton]; unfold k3_part1_skel k3_part2_skel k3_part3_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  subst e0 e1 e2 e3
  sl_exec
  sl_step
  iapply Hk
  isplitl [H0]; · (iexists f0; isplitr; · ipureintro; rfl); iexact H0
  isplitl [H1]; · (iexists f1; isplitr; · ipureintro; rfl); iexact H1
  isplitl [H2]; · (iexists f2; isplitr; · ipureintro; rfl); iexact H2
  isplitl [H3]; · (iexists f3; isplitr; · ipureintro; rfl); iexact H3
  isplitl [H4]
  · iexists _
    isplitr
    swap; · iexact H4
    ipureintro
    exact View.read_writes_eq_canon _ _ _ (atOut_cover _)
  iexists _
  isplitr
  swap; · iexact H5
  ipureintro
  exact View.read_writes_eq_canon _ _ _ (atAttn_cover _)

/-! ## The proof data -/

section Data

variable (W : Dev nD → Valuation τ sig (Elt F))

/-- Window `w`'s block at point `t`, at the contents the region is entered from. -/
def atBlk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (arrRef spec3 w)))

/-- The proof data: arrays as found, inputs' buffers at their blocks, the results' at what the body leaves. -/
def atDat (c : Dev nD) : Dat τ (Elt F) (HIx 1) ℕ UU ℕ cfg3 c where
  A w := W c (Proc.devRef .tc (arrRef spec3 w))
  after w t := match w with
    | ⟨0, _⟩ => atBlk W c 0 t
    | ⟨1, _⟩ => atBlk W c 1 t
    | ⟨2, _⟩ => atBlk W c 2 t
    | ⟨3, _⟩ => atBlk W c 3 t
    | ⟨4, _⟩ => atOut (atBlk W c 0 t) (atBlk W c 1 t) (atBlk W c 2 t) (atBlk W c 3 t)
    | ⟨5, _⟩ => atAttn (atBlk W c 0 t) (atBlk W c 1 t)
  Φ _ := scopedRest spec3 c
  q _ := fullShare
  owed _ := (K (F := F)).Otc c 1
  recorded _ := low (F := F) c (8 * 1)

theorem atA (c : Dev nD) (w : Fin cfg3.W) : (atDat W c).A w = W c (Proc.devRef .tc (arrRef spec3 w)) := by dsimp only [atDat]

/-- An input's buffer holds its block at every point, when the body leaves that block in place. -/
theorem at_before (c : Dev nD) (w : Fin cfg3.W) (hin : (cfg3.win w).isOut = false)
    (hclip : ∀ t t' : Fin cfg3.N, (cfg3.win w).clip (cfg3.grid.coords t) = (cfg3.win w).clip (cfg3.grid.coords t'))
    (hcut : ∀ t, (cfg3.win w).cut (cfg3.grid.coords t) ((atDat W c).after w t) = atBlk W c w t) (t : Fin cfg3.N) (d) :
    (atDat W c).before w t d = (atDat W c).fetched w t d :=
  (atDat W c).before_in_eq_fetched w hin (fun _ => rfl) (fun t t' _ => hclip t t')
    (fun t => by rw [hcut t]; unfold Dat.blockOf atBlk; rw [atA]) t d

theorem at_before0 (c : Dev nD) (t : Fin cfg3.N) (d) : (atDat W c).before 0 t d = atBlk W c 0 t :=
  (at_before W c 0 rfl (fun _ _ => rfl) (fun t => by dsimp only [atDat]) t d).trans (by unfold Dat.fetched Dat.blockOf atBlk; rw [atA]; rfl)
theorem at_before1 (c : Dev nD) (t : Fin cfg3.N) (d) : (atDat W c).before 1 t d = atBlk W c 1 t :=
  (at_before W c 1 rfl (fun _ _ => rfl) (fun t => by dsimp only [atDat]) t d).trans (by unfold Dat.fetched Dat.blockOf atBlk; rw [atA]; rfl)
theorem at_before2 (c : Dev nD) (t : Fin cfg3.N) (d) : (atDat W c).before 2 t d = atBlk W c 2 t :=
  (at_before W c 2 rfl (fun _ _ => rfl) (fun t => by dsimp only [atDat]) t d).trans (by unfold Dat.fetched Dat.blockOf atBlk; rw [atA]; rfl)
theorem at_before3 (c : Dev nD) (t : Fin cfg3.N) (d) : (atDat W c).before 3 t d = atBlk W c 3 t :=
  (at_before W c 3 rfl (fun _ _ => rfl) (fun t => by dsimp only [atDat]) t d).trans (by unfold Dat.fetched Dat.blockOf atBlk; rw [atA]; rfl)

theorem at_row (t : Fin cfg3.N) : defs₀ (F := F) .tc cfg3.body (cfg3.bodyArgs t (cfg3.slots t)) = bodyAt3 t := rfl

/-- The body at any point. -/
theorem at_sound (c : Dev nD) (t : Fin cfg3.N) :
    iprop((atDat W c).Φ t.castSucc ∗ (atDat W c).owesAt none t.castSucc
      ∗ (∃ d, owns (c : Thread nD τ) (st3_0 t) fullShare ((atDat W c).before 0 t d))
      ∗ (∃ d, owns (c : Thread nD τ) (st3_1 t) fullShare ((atDat W c).before 1 t d))
      ∗ (∃ d, owns (c : Thread nD τ) (st3_2 t) fullShare ((atDat W c).before 2 t d))
      ∗ (∃ d, owns (c : Thread nD τ) (st3_3 t) fullShare ((atDat W c).before 3 t d))
      ∗ (∃ d, owns (c : Thread nD τ) (st3_4 t) fullShare ((atDat W c).before 4 t d))
      ∗ (∃ d, owns (c : Thread nD τ) (st3_5 t) fullShare ((atDat W c).before 5 t d)))
    ⊢ wp frame (wpE (defs₀ (F := F)) 𝒱₀ c none) Set.univ (bodyAt3 t) fun _ =>
      iprop((atDat W c).Φ t.succ ∗ (atDat W c).owesAt none t.succ
      ∗ owns (c : Thread nD τ) (st3_0 t) fullShare ((atDat W c).after 0 t)
      ∗ owns (c : Thread nD τ) (st3_1 t) fullShare ((atDat W c).after 1 t)
      ∗ owns (c : Thread nD τ) (st3_2 t) fullShare ((atDat W c).after 2 t)
      ∗ owns (c : Thread nD τ) (st3_3 t) fullShare ((atDat W c).after 3 t)
      ∗ owns (c : Thread nD τ) (st3_4 t) fullShare ((atDat W c).after 4 t)
      ∗ owns (c : Thread nD τ) (st3_5 t) fullShare ((atDat W c).after 5 t)) := by
  unfold bodyAt3
  simp only [at_before0, at_before1, at_before2, at_before3]
  rw [show (atDat W c).Φ t.succ = (atDat W c).Φ t.castSucc from rfl,
    show (atDat W c).owesAt none t.succ = (atDat W c).owesAt none t.castSucc from rfl]
  iintro ⟨HΦ, Ho, ⟨%d0, H0⟩, ⟨%d1, H1⟩, ⟨%d2, H2⟩, ⟨%d3, H3⟩, ⟨%d4, H4⟩, ⟨%d5, H5⟩⟩
  iapply (at_body c Set.univ (grid3.coords t) _ _ _ _ _ _ _ _ _ _ _ _ (atBlk W c 0 t) (atBlk W c 1 t) (atBlk W c 2 t) (atBlk W c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · dsimp only [atDat]; iexact H0
  isplitl [H1]; · dsimp only [atDat]; iexact H1
  isplitl [H2]; · dsimp only [atDat]; iexact H2
  isplitl [H3]; · dsimp only [atDat]; iexact H3
  isplitl [H4]; · dsimp only [atDat]; iexact H4
  dsimp only [atDat]; iexact H5

theorem at_obligation (c : Dev nD) : BodyObligation (atDat W c) (defs₀ (F := F)) 𝒱₀ none Set.univ := fun t => by
  rw [bigSep_W3, bigSep_W3, at_row]
  exact triple_restated (at_sound W c t) rfl .rfl fun _ => .rfl

end Data

end Cert.Proof.RI

end
-- ==== Proof.RI.Route.lean ====
/-
  The routing call over sixteen points: for a block of tokens, the rows of the eight best-scoring states and the queries;
  what its body leaves in the two results' buffers, and the proof data of its pipeline entered from any contents.
-/
module

public import proofs.«01_k».proof.Proof.RI.Region
public import proofs.«01_k».proof.Proof.Gen.KernelIdeal.Points
public import Idealize.ShloMosaic.Lib.Pipeline.FrameBody

@[expose] public section

set_option maxRecDepth 65536

noncomputable section

namespace Cert.Proof.RI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation arrRef scopedRest)

variable {F : FTy → Type} [FloatOps F] [Named F]

local notation "𝕄" => MT nD τ sig (HIx 1) (Elt F) ℕ UU ℕ

/-! ## What the body leaves -/

abbrev rtT : Rect S1x256x1024 := Rect.unit (s := S1x256x1024) ![0, 0, 0] S1x256x1024.size inb_S1x256x1024_S1x256x1024_0_0_0
abbrev rtS : Rect S1x1024x1024 := Rect.unit (s := S1x1024x1024) ![0, 0, 0] S1x1024x1024.size inb_S1x1024x1024_S1x1024x1024_0_0_0
abbrev rtW : Rect S1024x1024 := Rect.unit (s := S1024x1024) ![0, 0] S1024x1024.size inb_S1024x1024_S1024x1024_0_0
abbrev rtB : Rect S1x1024 := Rect.unit (s := S1x1024) ![0, 0] S1x1024.size inb_S1x1024_S1x1024_0_0
abbrev rtI : Rect S256x8 := Rect.unit (s := S256x8) ![0, 0] S256x8.size inb_S256x8_S256x8_0_0

/-- The column numbers the rounds select by. -/
abbrev rtIota : IVec S256x1024 32 := iota .tc S256x1024 32 [1] iota_S256x1024_d1_w32

/-- The block of rows the body computes, of batch number `b`. -/
def rtRows (b : BitVec 32) (tok : Vec F S1x256x1024 .f32) (st : Vec F S1x1024x1024 .f32) (rwt : Vec F S1024x1024 .f32) (rb : Vec F S1x1024 .f32) :
    IVec S256x8 32 :=
  k0_pay15 b rtIota (k0_pay3 tok rwt rb st) (k0_pay5 tok rwt rb st) (k0_pay7 rtIota (k0_pay6 tok rwt rb st)) (k0_pay9 rtIota (k0_pay6 tok rwt rb st))
    (k0_pay11 rtIota (k0_pay6 tok rwt rb st)) (k0_pay12 rtIota (k0_pay6 tok rwt rb st)) (k0_pay13 rtIota (k0_pay6 tok rwt rb st))
    (k0_pay14 rtIota (k0_pay6 tok rwt rb st))

/-- The rows' buffer after the body. -/
def rtIx (b : BitVec 32) (tok : Vec F S1x256x1024 .f32) (st : Vec F S1x1024x1024 .f32) (rwt : Vec F S1024x1024 .f32) (rb : Vec F S1x1024 .f32) :
    Vec F S256x8 .i32 :=
  View.canon [⟨rtI, rtRows b (View.ld tok rtT) (View.ld st rtS) (View.ld rwt rtW) (View.ld rb rtB)⟩]

/-- The queries' buffer after the body. -/
def rtQ (tok : Vec F S1x256x1024 .f32) (qw : Vec F S1024x1024 .f32) (qb : Vec F S1x1024 .f32) : Vec F S1x256x1024 .f32 :=
  View.canon [⟨rtT, k0_pay16 (k0_pay1 (View.ld tok rtT)) (View.ld qw rtW) (View.ld qb rtB)⟩]

theorem rtIx_cover (u : Vec F S256x8 .i32) (y : S256x8.Idx) :
    ∃ pc ∈ ([⟨rtI, u⟩] : List (View.Piece (Elt F) S256x8 .i32)), y ∈ pc.1.set :=
  View.cover_of_tiled [⟨rtI, u⟩] S256x8.size (by rfl) y

theorem rtQ_cover (u : Vec F S1x256x1024 .f32) (y : S1x256x1024.Idx) :
    ∃ pc ∈ ([⟨rtT, u⟩] : List (View.Piece (Elt F) S1x256x1024 .f32)), y ∈ pc.1.set :=
  View.cover_of_tiled [⟨rtT, u⟩] S1x256x1024.size (by rfl) y

set_option maxHeartbeats 2000000 in
/-- The body on whole buffers, the inputs' at what they read, leaves the two results of them in the results' buffers. -/
theorem rt_body (c : Dev nD) (E : Set ℕ) (i : grid0.Coords)
    (a0 : Memref sig .tc .vmem S1x256x1024 .f32) (h0 : a0.IsWhole)
    (a1 : Memref sig .tc .vmem S1x1024x1024 .f32) (h1 : a1.IsWhole)
    (a2 : Memref sig .tc .vmem S1024x1024 .f32) (h2 : a2.IsWhole)
    (a3 : Memref sig .tc .vmem S1x1024 .f32) (h3 : a3.IsWhole)
    (a4 : Memref sig .tc .vmem S1024x1024 .f32) (h4 : a4.IsWhole)
    (a5 : Memref sig .tc .vmem S1x1024 .f32) (h5 : a5.IsWhole)
    (a6 : Memref sig .tc .vmem S256x8 .i32) (h6 : a6.IsWhole)
    (a7 : Memref sig .tc .vmem S1x256x1024 .f32) (h7 : a7.IsWhole)
    (tok : Vec F S1x256x1024 .f32) (st : Vec F S1x1024x1024 .f32) (rwt : Vec F S1024x1024 .f32) (rb : Vec F S1x1024 .f32) (qw : Vec F S1024x1024 .f32) (qb : Vec F S1x1024 .f32) (Q : PUnit → sProp 𝕄) :
    iprop(owns (c : Thread nD τ) a0 fullShare tok ∗ owns (c : Thread nD τ) a1 fullShare st ∗ owns (c : Thread nD τ) a2 fullShare rwt ∗ owns (c : Thread nD τ) a3 fullShare rb ∗ owns (c : Thread nD τ) a4 fullShare qw ∗ owns (c : Thread nD τ) a5 fullShare qb ∗
        (∃ d, owns (c : Thread nD τ) a6 fullShare d) ∗ (∃ d, owns (c : Thread nD τ) a7 fullShare d) ∗
        (iprop(owns (c : Thread nD τ) a0 fullShare tok ∗ owns (c : Thread nD τ) a1 fullShare st ∗ owns (c : Thread nD τ) a2 fullShare rwt ∗ owns (c : Thread nD τ) a3 fullShare rb ∗ owns (c : Thread nD τ) a4 fullShare qw ∗ owns (c : Thread nD τ) a5 fullShare qb ∗
            owns (c : Thread nD τ) a6 fullShare (rtIx (BitVec.ofNat 32 (i 0).val) tok st rwt rb) ∗ owns (c : Thread nD τ) a7 fullShare (rtQ tok qw qb)) -∗ Q ⟨⟩))
      ⊢ wp frame (wpE (defs₀ (F := F)) 𝒱₀ c none) E (cc0__route_body i a0 h0 a1 h1 a2 h2 a3 h3 a4 h4 a5 h5 a6 h6 a7 h7) Q := by
  simp only [cc0__route_body_eq_skeleton]; unfold cc0__route_body_skel
  simp only [k0_part1_eq_skeleton, k0_part2_eq_skeleton, k0_part3_eq_skeleton]; unfold k0_part1_skel k0_part2_skel k0_part3_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
  subst e0 e1 e2 e3 e4 e5
  sl_exec
  sl_step
  iapply Hk
  isplitl [H0]; · (iexists f0; isplitr; · ipureintro; rfl); iexact H0
  isplitl [H1]; · (iexists f1; isplitr; · ipureintro; rfl); iexact H1
  isplitl [H2]; · (iexists f2; isplitr; · ipureintro; rfl); iexact H2
  isplitl [H3]; · (iexists f3; isplitr; · ipureintro; rfl); iexact H3
  isplitl [H4]; · (iexists f4; isplitr; · ipureintro; rfl); iexact H4
  isplitl [H5]; · (iexists f5; isplitr; · ipureintro; rfl); iexact H5
  isplitl [H6]
  · iexists _
    isplitr
    swap; · iexact H6
    ipureintro
    dsimp only
    exact View.read_writes_eq_canon _ _ _ (rtIx_cover _)
  iexists _
  isplitr
  swap; · iexact H7
  ipureintro
  exact View.read_writes_eq_canon _ _ _ (rtQ_cover _)

/-! ## The proof data -/

section Data

variable (W : Dev nD → Valuation τ sig (Elt F))

/-- Window `w`'s block at point `t`, at the contents the region is entered from. -/
def rtBlk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (arrRef spec0 w)))

/-- The proof data: arrays as found, inputs' buffers at their blocks, the results' at what the body leaves. -/
def rtDat (c : Dev nD) : Dat τ (Elt F) (HIx 1) ℕ UU ℕ cfg0 c where
  A w := W c (Proc.devRef .tc (arrRef spec0 w))
  after w t := match w with
    | ⟨0, _⟩ => rtBlk W c 0 t
    | ⟨1, _⟩ => rtBlk W c 1 t
    | ⟨2, _⟩ => rtBlk W c 2 t
    | ⟨3, _⟩ => rtBlk W c 3 t
    | ⟨4, _⟩ => rtBlk W c 4 t
    | ⟨5, _⟩ => rtBlk W c 5 t
    | ⟨6, _⟩ => rtIx (BitVec.ofNat 32 (grid0.coords t 0).val) (rtBlk W c 0 t) (rtBlk W c 1 t) (rtBlk W c 2 t) (rtBlk W c 3 t)
    | ⟨7, _⟩ => rtQ (rtBlk W c 0 t) (rtBlk W c 4 t) (rtBlk W c 5 t)
  Φ _ := scopedRest spec0 c
  q _ := fullShare
  owed _ := (K (F := F)).Otc c 0
  recorded _ := low (F := F) c (8 * 0)

theorem rtA (c : Dev nD) (w : Fin cfg0.W) : (rtDat W c).A w = W c (Proc.devRef .tc (arrRef spec0 w)) := by dsimp only [rtDat]

/-- An input's buffer holds its block at every point, when the body leaves that block in place. -/
theorem rt_before (c : Dev nD) (w : Fin cfg0.W) (hin : (cfg0.win w).isOut = false)
    (hclip : ∀ t t' : Fin cfg0.N, (cfg0.win w).clip (cfg0.grid.coords t) = (cfg0.win w).clip (cfg0.grid.coords t'))
    (hcut : ∀ t, (cfg0.win w).cut (cfg0.grid.coords t) ((rtDat W c).after w t) = rtBlk W c w t) (t : Fin cfg0.N) (d) :
    (rtDat W c).before w t d = (rtDat W c).fetched w t d :=
  (rtDat W c).before_in_eq_fetched w hin (fun _ => rfl) (fun t t' _ => hclip t t')
    (fun t => by rw [hcut t]; unfold Dat.blockOf rtBlk; rw [rtA]) t d

theorem rt_before0 (c : Dev nD) (t : Fin cfg0.N) (d) : (rtDat W c).before 0 t d = rtBlk W c 0 t :=
  (rt_before W c 0 rfl (fun _ _ => rfl) (fun t => by dsimp only [rtDat]) t d).trans (by unfold Dat.fetched Dat.blockOf rtBlk; rw [rtA]; rfl)
theorem rt_before1 (c : Dev nD) (t : Fin cfg0.N) (d) : (rtDat W c).before 1 t d = rtBlk W c 1 t :=
  (rt_before W c 1 rfl (fun _ _ => rfl) (fun t => by dsimp only [rtDat]) t d).trans (by unfold Dat.fetched Dat.blockOf rtBlk; rw [rtA]; rfl)
theorem rt_before2 (c : Dev nD) (t : Fin cfg0.N) (d) : (rtDat W c).before 2 t d = rtBlk W c 2 t :=
  (rt_before W c 2 rfl (fun _ _ => rfl) (fun t => by dsimp only [rtDat]) t d).trans (by unfold Dat.fetched Dat.blockOf rtBlk; rw [rtA]; rfl)
theorem rt_before3 (c : Dev nD) (t : Fin cfg0.N) (d) : (rtDat W c).before 3 t d = rtBlk W c 3 t :=
  (rt_before W c 3 rfl (fun _ _ => rfl) (fun t => by dsimp only [rtDat]) t d).trans (by unfold Dat.fetched Dat.blockOf rtBlk; rw [rtA]; rfl)
theorem rt_before4 (c : Dev nD) (t : Fin cfg0.N) (d) : (rtDat W c).before 4 t d = rtBlk W c 4 t :=
  (rt_before W c 4 rfl (fun _ _ => rfl) (fun t => by dsimp only [rtDat]) t d).trans (by unfold Dat.fetched Dat.blockOf rtBlk; rw [rtA]; rfl)
theorem rt_before5 (c : Dev nD) (t : Fin cfg0.N) (d) : (rtDat W c).before 5 t d = rtBlk W c 5 t :=
  (rt_before W c 5 rfl (fun _ _ => rfl) (fun t => by dsimp only [rtDat]) t d).trans (by unfold Dat.fetched Dat.blockOf rtBlk; rw [rtA]; rfl)

theorem rt_row (t : Fin cfg0.N) : defs₀ (F := F) .tc cfg0.body (cfg0.bodyArgs t (cfg0.slots t)) = bodyAt0 t := rfl

/-- The body at any point. -/
theorem rt_sound (c : Dev nD) (t : Fin cfg0.N) :
    iprop((rtDat W c).Φ t.castSucc ∗ (rtDat W c).owesAt none t.castSucc
      ∗ (∃ d, owns (c : Thread nD τ) (st0_0 t) fullShare ((rtDat W c).before 0 t d))
      ∗ (∃ d, owns (c : Thread nD τ) (st0_1 t) fullShare ((rtDat W c).before 1 t d))
      ∗ (∃ d, owns (c : Thread nD τ) (st0_2 t) fullShare ((rtDat W c).before 2 t d))
      ∗ (∃ d, owns (c : Thread nD τ) (st0_3 t) fullShare ((rtDat W c).before 3 t d))
      ∗ (∃ d, owns (c : Thread nD τ) (st0_4 t) fullShare ((rtDat W c).before 4 t d))
      ∗ (∃ d, owns (c : Thread nD τ) (st0_5 t) fullShare ((rtDat W c).before 5 t d))
      ∗ (∃ d, owns (c : Thread nD τ) (st0_6 t) fullShare ((rtDat W c).before 6 t d))
      ∗ (∃ d, owns (c : Thread nD τ) (st0_7 t) fullShare ((rtDat W c).before 7 t d)))
    ⊢ wp frame (wpE (defs₀ (F := F)) 𝒱₀ c none) Set.univ (bodyAt0 t) fun _ =>
      iprop((rtDat W c).Φ t.succ ∗ (rtDat W c).owesAt none t.succ
      ∗ owns (c : Thread nD τ) (st0_0 t) fullShare ((rtDat W c).after 0 t)
      ∗ owns (c : Thread nD τ) (st0_1 t) fullShare ((rtDat W c).after 1 t)
      ∗ owns (c : Thread nD τ) (st0_2 t) fullShare ((rtDat W c).after 2 t)
      ∗ owns (c : Thread nD τ) (st0_3 t) fullShare ((rtDat W c).after 3 t)
      ∗ owns (c : Thread nD τ) (st0_4 t) fullShare ((rtDat W c).after 4 t)
      ∗ owns (c : Thread nD τ) (st0_5 t) fullShare ((rtDat W c).after 5 t)
      ∗ owns (c : Thread nD τ) (st0_6 t) fullShare ((rtDat W c).after 6 t)
      ∗ owns (c : Thread nD τ) (st0_7 t) fullShare ((rtDat W c).after 7 t)) := by
  unfold bodyAt0
  simp only [rt_before0, rt_before1, rt_before2, rt_before3, rt_before4, rt_before5]
  rw [show (rtDat W c).Φ t.succ = (rtDat W c).Φ t.castSucc from rfl,
    show (rtDat W c).owesAt none t.succ = (rtDat W c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (rt_body c Set.univ (grid0.coords t) _ _ _ _ _ _ _ _ _ _ _ _ _ _ _ _ (rtBlk W c 0 t) (rtBlk W c 1 t) (rtBlk W c 2 t) (rtBlk W c 3 t) (rtBlk W c 4 t) (rtBlk W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · dsimp only [rtDat]; iexact H0
  isplitl [H1]; · dsimp only [rtDat]; iexact H1
  isplitl [H2]; · dsimp only [rtDat]; iexact H2
  isplitl [H3]; · dsimp only [rtDat]; iexact H3
  isplitl [H4]; · dsimp only [rtDat]; iexact H4
  isplitl [H5]; · dsimp only [rtDat]; iexact H5
  isplitl [H6]; · dsimp only [rtDat]; iexact H6
  dsimp only [rtDat]; iexact H7

theorem rt_obligation (c : Dev nD) : BodyObligation (rtDat W c) (defs₀ (F := F)) 𝒱₀ none Set.univ := fun t => by
  rw [bigSep_W0, bigSep_W0, rt_row]
  exact triple_restated (rt_sound W c t) rfl .rfl fun _ => .rfl

end Data

end Cert.Proof.RI

end
-- ==== Proof.RI.Main.lean ====
/-
  The program's main thread: its host lines, its three TensorCore calls and its SparseCore call, as steps from the launch
  memory to the final contents of every buffer; and the run of the whole program to those contents.
-/
module

public import Idealize.ShloMosaic.Lib.Pointwise
public import proofs.«01_k».proof.Proof.RI.Kv
public import proofs.«01_k».proof.Proof.RI.Attn
public import proofs.«01_k».proof.Proof.RI.Route

@[expose] public section

set_option maxRecDepth 16384

noncomputable section

namespace Cert.Proof.RI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after seqK)
open Idealize.ShloMosaic.Pipeline (Dat afterRegion arrRef arrRefs ucRefs pin scopedRest cells launchToks cellsGhost toksInit)

variable {F : FTy → Type} [FloatOps F] [Named F]

local notation "𝕄" => MT nD τ sig (HIx 1) (Elt F) ℕ UU ℕ

/-! ## The host lines -/

/-- The weights transposed and the biases as rows, before the first call. -/
def ops0 : List (HloOp τ sig (Elt F)) :=
  [StableHlo.unary main_arg1 main_v0 ((transpose S2x1024x1024 [0, 2, 1] · transposes_S2x1024x1024_S2x1024x1024_0_2_1) : (⟨S2x1024x1024, .f32⟩ : BufTy).Contents (Elt F) → (⟨S2x1024x1024, .f32⟩ : BufTy).Contents (Elt F)),
   StableHlo.unary main_arg2 main_v1 ((transpose S1024x1024 [1, 0] · transposes_S1024x1024_S1024x1024_1_0) : (⟨S1024x1024, .f32⟩ : BufTy).Contents (Elt F) → (⟨S1024x1024, .f32⟩ : BufTy).Contents (Elt F)),
   StableHlo.unary main_arg4 main_v2 ((transpose S1024x1024 [1, 0] · transposes_S1024x1024_S1024x1024_1_0) : (⟨S1024x1024, .f32⟩ : BufTy).Contents (Elt F) → (⟨S1024x1024, .f32⟩ : BufTy).Contents (Elt F)),
   StableHlo.unary main_arg6 main_v3 ((transpose S1024x1024 [1, 0] · transposes_S1024x1024_S1024x1024_1_0) : (⟨S1024x1024, .f32⟩ : BufTy).Contents (Elt F) → (⟨S1024x1024, .f32⟩ : BufTy).Contents (Elt F)),
   StableHlo.unary main_arg8 main_v4 ((transpose S1024x1024 [1, 0] · transposes_S1024x1024_S1024x1024_1_0) : (⟨S1024x1024, .f32⟩ : BufTy).Contents (Elt F) → (⟨S1024x1024, .f32⟩ : BufTy).Contents (Elt F)),
   StableHlo.unary main_arg10 main_v5 ((transpose S1024x1024 [1, 0] · transposes_S1024x1024_S1024x1024_1_0) : (⟨S1024x1024, .f32⟩ : BufTy).Contents (Elt F) → (⟨S1024x1024, .f32⟩ : BufTy).Contents (Elt F)),
   StableHlo.reshape main_arg3 main_v6 (rfl : (.f32 : EltTy) = .f32) shapeCasts_S1024_S1x1024,
   StableHlo.reshape main_arg5 main_v7 (rfl : (.f32 : EltTy) = .f32) shapeCasts_S1024_S1x1024,
   StableHlo.reshape main_arg7 main_v8 (rfl : (.f32 : EltTy) = .f32) shapeCasts_S1024_S1x1024,
   StableHlo.reshape main_arg9 main_v9 (rfl : (.f32 : EltTy) = .f32) shapeCasts_S1024_S1x1024,
   StableHlo.reshape main_arg11 main_v10 (rfl : (.f32 : EltTy) = .f32) shapeCasts_S1024_S1x1024]

/-- The rows the SparseCore reads and the list it reads them by. -/
def ops1 : List (HloOp τ sig (Elt F)) :=
  [StableHlo.reshape main_v11_0 main_v13 (rfl : (.i32 : EltTy) = .i32) shapeCasts_S4096x8_S32768x1,
   StableHlo.nullary main_c (constantI S_ 32 0#32),
   StableHlo.unary main_c main_v14 (broadcastInDim S32768x1 ![] bcast_S_S32768x1 : (⟨S_, .i32⟩ : BufTy).Contents (Elt F) → (⟨S32768x1, .i32⟩ : BufTy).Contents (Elt F)),
   StableHlo.binary main_v13 main_v14 main_v15 (maxsi : (⟨S32768x1, .i32⟩ : BufTy).Contents (Elt F) → (⟨S32768x1, .i32⟩ : BufTy).Contents (Elt F) → (⟨S32768x1, .i32⟩ : BufTy).Contents (Elt F)),
   StableHlo.nullary main_c_0 (constantI S_ 32 2047#32),
   StableHlo.unary main_c_0 main_v16 (broadcastInDim S32768x1 ![] bcast_S_S32768x1 : (⟨S_, .i32⟩ : BufTy).Contents (Elt F) → (⟨S32768x1, .i32⟩ : BufTy).Contents (Elt F)),
   StableHlo.binary main_v15 main_v16 main_v17 (minsi : (⟨S32768x1, .i32⟩ : BufTy).Contents (Elt F) → (⟨S32768x1, .i32⟩ : BufTy).Contents (Elt F) → (⟨S32768x1, .i32⟩ : BufTy).Contents (Elt F)),
   StableHlo.nullary main_c_1 (constantI S_ 32 8#32),
   StableHlo.unary main_c_1 main_v18 (broadcastInDim S32768x1 ![] bcast_S_S32768x1 : (⟨S_, .i32⟩ : BufTy).Contents (Elt F) → (⟨S32768x1, .i32⟩ : BufTy).Contents (Elt F)),
   StableHlo.binary main_v17 main_v18 main_v19 (muli : (⟨S32768x1, .i32⟩ : BufTy).Contents (Elt F) → (⟨S32768x1, .i32⟩ : BufTy).Contents (Elt F) → (⟨S32768x1, .i32⟩ : BufTy).Contents (Elt F)),
   StableHlo.nullary main_v20 (iotaInDim S8 32 0),
   StableHlo.unary main_v20 main_v21 (broadcastInDim S1x8 ![1] bcast_S8_S1x8_1 : (⟨S8, .i32⟩ : BufTy).Contents (Elt F) → (⟨S1x8, .i32⟩ : BufTy).Contents (Elt F)),
   StableHlo.unary main_v19 main_v22 (broadcastInDim S32768x8 ![0, 1] bcast_S32768x1_S32768x8_0_1 : (⟨S32768x1, .i32⟩ : BufTy).Contents (Elt F) → (⟨S32768x8, .i32⟩ : BufTy).Contents (Elt F)),
   StableHlo.unary main_v21 main_v23 (broadcastInDim S32768x8 ![0, 1] bcast_S1x8_S32768x8_0_1 : (⟨S1x8, .i32⟩ : BufTy).Contents (Elt F) → (⟨S32768x8, .i32⟩ : BufTy).Contents (Elt F)),
   StableHlo.binary main_v22 main_v23 main_v24 (addi : (⟨S32768x8, .i32⟩ : BufTy).Contents (Elt F) → (⟨S32768x8, .i32⟩ : BufTy).Contents (Elt F) → (⟨S32768x8, .i32⟩ : BufTy).Contents (Elt F)),
   StableHlo.reshape main_v24 main_v25 (rfl : (.i32 : EltTy) = .i32) shapeCasts_S32768x8_S262144,
   StableHlo.reshape main_v12 main_v26 (rfl : (.f32 : EltTy) = .f32) shapeCasts_S2x1024x2048_S16384x2x128]

/-- The rows read, as the attention call takes them. -/
def ops2 : List (HloOp τ sig (Elt F)) :=
  [StableHlo.reshape main_v27 main_v28 (rfl : (.f32 : EltTy) = .f32) shapeCasts_S262144x2x128_S32768x2048]

/-- The weights in the result's order. -/
def ops3 : List (HloOp τ sig (Elt F)) :=
  [StableHlo.reshape main_v29_1 main_v30 (rfl : (.f32 : EltTy) = .f32) shapeCasts_S2x16384x16_S2x2048x8x16,
   StableHlo.unary main_v30 main_v31 ((transpose S2x16x2048x8 [0, 3, 1, 2] · transposes_S2x2048x8x16_S2x16x2048x8_0_3_1_2) : (⟨S2x2048x8x16, .f32⟩ : BufTy).Contents (Elt F) → (⟨S2x16x2048x8, .f32⟩ : BufTy).Contents (Elt F))]

theorem main_steps (d : Dev nD) : main (F := F) d =
    seqK ops0 (Prog.lift (.customCall (SparseCore.inner (Pipeline.entry 0)) ()) >>= fun _ =>
      Prog.lift (.customCall (SparseCore.inner (Pipeline.entry 1)) ()) >>= fun _ =>
      seqK ops1 (sc.run d 0 >>= fun _ => seqK ops2 (Prog.lift (.customCall (SparseCore.inner (Pipeline.entry 2)) ()) >>= fun _ =>
        seqK ops3 (pure ⟨⟩)))) := rfl

theorem main_eq (d : Dev nD) : main (F := F) d =
    (StableHlo.seq ops0 >>= fun _ => Prog.lift (.customCall (SparseCore.inner (Pipeline.entry 0)) ()) >>= fun _ =>
      Prog.lift (.customCall (SparseCore.inner (Pipeline.entry 1)) ()) >>= fun _ =>
      StableHlo.seq ops1 >>= fun _ => sc.run d 0 >>= fun _ => StableHlo.seq ops2 >>= fun _ =>
      Prog.lift (.customCall (SparseCore.inner (Pipeline.entry 2)) ()) >>= fun _ => StableHlo.seq ops3 >>= fun _ => pure ⟨⟩) := by
  rw [main_steps]; simp only [StableHlo.seq_bind_seqK]

theorem sub_uc {ops : List (HloOp τ sig (Elt F))} (h : ops.Forall fun op => op.bufs ⊆ StableHlo.tcRefs τ sig) :
    ∀ op ∈ ops, op.bufs ⊆ ucRefs τ sig := fun op ho => Pipeline.sub_ucRefs op (List.forall_iff_forall_mem.mp h op ho)

theorem ops0_sub : (ops0 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub .., StableHlo.reshape_bufs_sub .., StableHlo.reshape_bufs_sub ..⟩
theorem ops1_sub : (ops1 (F := F)).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub ..⟩
theorem ops2_sub : (ops2 (F := F)).Forall fun op => op.bufs ⊆ StableHlo.tcRefs τ sig :=
  StableHlo.reshape_bufs_sub ..
theorem ops3_sub : (ops3 (F := F)).Forall fun op => op.bufs ⊆ StableHlo.tcRefs τ sig :=
  ⟨StableHlo.reshape_bufs_sub .., StableHlo.unary_bufs_sub ..⟩

theorem ops0_fresh : (ops0 (F := F)).Forall fun op => op.fresh = ∅ := by
  simp only [ops0, List.Forall]; repeat' constructor
theorem ops1_fresh : (ops1 (F := F)).Forall fun op => op.fresh = ∅ := by
  simp only [ops1, List.Forall]; repeat' constructor
theorem ops2_fresh : (ops2 (F := F)).Forall fun op => op.fresh = ∅ := by
  simp only [ops2, List.Forall]; rfl
theorem ops3_fresh : (ops3 (F := F)).Forall fun op => op.fresh = ∅ := by
  simp only [ops3, List.Forall]; repeat' constructor

/-! ## The contents of every buffer, step by step -/

section Steps

variable (m : (ℓ : Loc nD τ sig) → Buf (Elt F) ℓ)

/-- At launch. -/
abbrev Wm (d : Dev nD) : Valuation τ sig (Elt F) := fun b => m (d, b)
/-- After the first host line. -/
def W0 (d : Dev nD) : Valuation τ sig (Elt F) := after ops0 (Wm m d)
/-- After the routing call. -/
def W1 (d : Dev nD) : Valuation τ sig (Elt F) := afterRegion (rtDat (W0 m) d) (W0 m d)
/-- After the keys' and values' call. -/
def W2 (d : Dev nD) : Valuation τ sig (Elt F) := afterRegion (kvDat (W1 m) d) (W1 m d)
/-- After the second host line. -/
def W3 (d : Dev nD) : Valuation τ sig (Elt F) := after ops1 (W2 m d)
/-- The rows the SparseCore reads from. -/
abbrev TBv (d : Dev nD) : S16384x2x128.Idx → Elt F .f32 := W3 m d (Proc.devRef .tc main_v26)
/-- The list it reads them by. -/
abbrev IXv (d : Dev nD) : S262144.Idx → Elt F .i32 := W3 m d (Proc.devRef .tc main_v25)
/-- After the SparseCore call. -/
def W4 (d : Dev nD) : Valuation τ sig (Elt F) :=
  Function.update (W3 m d) (Proc.devRef .tc main_v27) (gath (TBv m d) (IXv m d))
/-- After the third host line. -/
def W5 (d : Dev nD) : Valuation τ sig (Elt F) := after ops2 (W4 m d)
/-- After the attention call. -/
def W6 (d : Dev nD) : Valuation τ sig (Elt F) := afterRegion (atDat (W5 m) d) (W5 m d)
/-- At the end. -/
def W7 (d : Dev nD) : Valuation τ sig (Elt F) := after ops3 (W6 m d)

/-- The three TensorCore calls' proof data, each entered from the contents before it. -/
def pdats : (p : Fin 3) → (c : Dev nD) → Dat τ (Elt F) (HIx 1) ℕ UU ℕ (pin (pcfgs (F := F)) adm p) c
  | 0 => rtDat (W0 m)
  | 1 => kvDat (W1 m)
  | 2 => atDat (W5 m)

/-- A row number clamped between 0 and 2047, times eight, plus a piece's number, is below 16384. -/
theorem pieces_lt (x : BitVec 32) (k : ℕ) (hk : k < 8) :
    (IntOp.addi (IntOp.muli (IntOp.minsi (IntOp.maxsi x 0#32) 2047#32) 8#32) (BitVec.ofNat 32 k)).toNat < 16384 := by
  have hc : (IntOp.minsi (IntOp.maxsi x 0#32) 2047#32).toNat ≤ 2047 := by
    unfold IntOp.minsi IntOp.maxsi
    simp only [BitVec.slt_iff_toInt_lt, BitVec.toInt_ofNat]
    have := x.isLt
    split <;> split <;> simp_all [BitVec.toInt_eq_toNat_cond] <;> omega
  generalize IntOp.minsi (IntOp.maxsi x 0#32) 2047#32 = y at hc
  simp only [IntOp.addi, IntOp.muli, BitVec.toNat_add, BitVec.toNat_mul, BitVec.toNat_ofNat]
  omega

/-- The list of pieces the second host line makes of the chosen rows. -/
def pieceList (x : IVec S4096x8 32) : IVec S262144 32 :=
  shapeCast S262144
    (addi
      (broadcastInDim S32768x8 ![0, 1] bcast_S32768x1_S32768x8_0_1
        (muli (minsi (maxsi (shapeCast S32768x1 x shapeCasts_S4096x8_S32768x1) (broadcastInDim S32768x1 ![] bcast_S_S32768x1 (constantI S_ 32 0#32)))
            (broadcastInDim S32768x1 ![] bcast_S_S32768x1 (constantI S_ 32 2047#32)))
          (broadcastInDim S32768x1 ![] bcast_S_S32768x1 (constantI S_ 32 8#32))))
      (broadcastInDim S32768x8 ![0, 1] bcast_S1x8_S32768x8_0_1 (broadcastInDim S1x8 ![1] bcast_S8_S1x8_1 (iotaInDim S8 32 0))))
    shapeCasts_S32768x8_S262144

theorem IXv_pieceList (d : Dev nD) : IXv m d = pieceList (W2 m d (Proc.devRef .tc main_v11_0)) := by
  unfold IXv W3 ops1
  after_results_simp
  rfl

/-- Entry `n` of the list: the chosen row `n / 8`, clamped, times eight, plus `n % 8`. -/
theorem pieceList_apply (x : IVec S4096x8 32) (n : Fin 262144) :
    pieceList x (ix1 n) = IntOp.addi (IntOp.muli (IntOp.minsi (IntOp.maxsi
        (x (ix2 (n0 := 4096) (n1 := 8) ⟨n.val / 8 / 8, by omega⟩ ⟨n.val / 8 % 8, by omega⟩)) 0#32) 2047#32) 8#32) (BitVec.ofNat 32 (n.val % 8)) := by
  pointwise [pieceList]

theorem IXv_lt (d : Dev nD) (j : S262144.Idx) : (IXv m d j).toNat < 16384 := by
  obtain ⟨n, rfl⟩ : ∃ n : Fin 262144, j = ix1 n := ⟨_, eq_ix1 j⟩
  rw [IXv_pieceList, pieceList_apply]
  exact pieces_lt _ _ (Nat.mod_lt _ (by norm_num))

theorem loose0 (c : Dev nD) : Pipeline.BodyObligationLoose (pdats m 0 c) defs₀ 𝒱₀ none Set.univ := by
  have h := (rt_obligation (W0 m) c).loose
  exact h
theorem loose1 (c : Dev nD) : Pipeline.BodyObligationLoose (pdats m 1 c) defs₀ 𝒱₀ none Set.univ := by
  have h := (kv_obligation (W1 m) c).loose
  exact h
theorem loose2 (c : Dev nD) : Pipeline.BodyObligationLoose (pdats m 2 c) defs₀ 𝒱₀ none Set.univ := by
  have h := (at_obligation (W5 m) c).loose
  exact h

theorem phi0 (c : Dev nD) (t) : (pdats m 0 c).Φ t = scopedRest (pin (pcfgs (F := F)) adm 0).spec c := by
  have h : spec0 = (pin (pcfgs (F := F)) adm 0).spec := rfl
  rw [← h, show pdats m 0 c = rtDat (W0 m) c from rfl]; dsimp only [rtDat]
theorem phi1 (c : Dev nD) (t) : (pdats m 1 c).Φ t = scopedRest (pin (pcfgs (F := F)) adm 1).spec c := by
  have h : spec1 = (pin (pcfgs (F := F)) adm 1).spec := rfl
  rw [← h, show pdats m 1 c = kvDat (W1 m) c from rfl]; dsimp only [kvDat]
theorem phi2 (c : Dev nD) (t) : (pdats m 2 c).Φ t = scopedRest (pin (pcfgs (F := F)) adm 2).spec c := by
  have h : spec3 = (pin (pcfgs (F := F)) adm 2).spec := rfl
  rw [← h, show pdats m 2 c = atDat (W5 m) c from rfl]; dsimp only [atDat]

abbrev R0 := region (F := F) (pdats m) 0 0 launch0.toP (loose0 m) (fun _ _ => rfl) (fun _ _ => rfl)
  (fun c => (pdats m 0 c).share_full fun _ => rfl) (phi0 m) (Pipeline.arrRefs_sub_ucRefs spec0 (by decide)) (W0 m)
  (fun c w => rtA (W0 m) c w)
abbrev R1 := region (F := F) (pdats m) 1 0 launch1.toP (loose1 m) (fun _ _ => rfl) (fun _ _ => rfl)
  (fun c => (pdats m 1 c).share_full fun _ => rfl) (phi1 m) (Pipeline.arrRefs_sub_ucRefs spec1 (by decide)) (W1 m)
  (fun c w => kvA (W1 m) c w)
abbrev R2 := region (F := F) (pdats m) 2 1 launch3.toP (loose2 m) (fun _ _ => rfl) (fun _ _ => rfl)
  (fun c => (pdats m 2 c).share_full fun _ => rfl) (phi2 m) (Pipeline.arrRefs_sub_ucRefs spec3 (by decide)) (W5 m)
  (fun c w => atA (W5 m) c w)

/-! ## The launch's ghost state -/

/-- The SparseCore call's payloads. -/
abbrev Pm : (K (F := F)).Pay (nD := nD) (N := 1) (Val := Elt F) (Name := ℕ) (U := UU) :=
  P (TBv m 0) (IXv m 0) (W3 m 0 (Proc.devRef .tc main_v27))

def u₀ : UU := (initOf (K (F := F)).hsCells (K (F := F)).hsToks,
  (initOf (cells (pin (pcfgs (F := F)) adm) pinj) (launchToks (pin (pcfgs (F := F)) adm) pinj), 1))

/-- The three pipelines' ghost state on a device. -/
def Gd (d : Dev nD) : sProp 𝕄 :=
  iprop((bigSep Finset.univ fun p : Fin 3 => cellsGhost (pin (pcfgs (F := F)) adm) EP p d)
    ∗ bigSep Finset.univ fun p : Fin 3 => toksInit (pin (pcfgs (F := F)) adm) EP p d)

omit [FloatOps F] [Named F] in
theorem bigSep_const_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    ((initOf (cells (pin (pcfgs (F := F)) adm) pinj) (launchToks (pin (pcfgs (F := F)) adm) pinj), 1) : UP × Counters)) $$ Hu
  icases H with ⟨HH, HR⟩
  ihave H := (own_pair_emb embR (initOf (cells (pin (pcfgs (F := F)) adm) pinj) (launchToks (pin (pcfgs (F := F)) adm) pinj)) (1 : Counters)) $$ HR
  icases H with ⟨HP, -⟩
  imod (Pipeline.fund_ghost (pin (pcfgs (F := F)) adm) EP pinj) $$ HP with ⟨Hc, Ht⟩
  imodintro
  isplitl [HH]; · iexact HH
  isplitl [Hc Ht]
  · unfold Gd
    rw [bigSep_sep']
    isplitl [Hc]; · iexact Hc
    iexact Ht
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_const_emp]
  iempintro

theorem after_ops0 (d : Dev nD) : after ops0 (Wm m d) = W0 m d := rfl
theorem after_ops1 (d : Dev nD) : after ops1 (W2 m d) = W3 m d := rfl
theorem after_ops2 (d : Dev nD) : after ops2 (W4 m d) = W5 m d := rfl
theorem after_ops3 (d : Dev nD) : after ops3 (W6 m d) = W7 m d := rfl

theorem bigSep_three (Ψ : Fin 3 → sProp 𝕄) : bigSep Finset.univ Ψ = iprop(Ψ 0 ∗ Ψ 1 ∗ Ψ 2) := by
  rw [show (Finset.univ : Finset (Fin 3)) = {0, 1, 2} by decide, SparseCore.bigSep_insert' (by decide), SparseCore.bigSep_insert' (by decide),
    bigSep_singleton]

/-! ## The main thread -/

/-- The TensorCore's state before call `n` splits into what it owes and the rest. -/
theorem tcSt_cut (d : Dev nD) : ∃ R : ℕ → sProp 𝕄, ∀ n, ((K (F := F)).tcSt EH d n : sProp 𝕄) = iprop(lowOwes d n ∗ R n) :=
  ⟨fun _ => _, fun _ => rfl⟩

theorem R0_pre (d : Dev nD) : (R0 m).pre d = iprop(StableHlo.held (d.tc : Thread nD τ) (ucRefs τ sig) (W0 m d) ∗ lowOwes d 0) := rfl
theorem R0_post (d : Dev nD) : (R0 m).post d = iprop(StableHlo.held (d.tc : Thread nD τ) (ucRefs τ sig) (W1 m d) ∗ lowOwes d 0) := rfl
theorem R1_pre (d : Dev nD) : (R1 m).pre d = iprop(StableHlo.held (d.tc : Thread nD τ) (ucRefs τ sig) (W1 m d) ∗ lowOwes d 0) := rfl
theorem R1_post (d : Dev nD) : (R1 m).post d = iprop(StableHlo.held (d.tc : Thread nD τ) (ucRefs τ sig) (W2 m d) ∗ lowOwes d 0) := rfl
theorem R2_pre (d : Dev nD) : (R2 m).pre d = iprop(StableHlo.held (d.tc : Thread nD τ) (ucRefs τ sig) (W5 m d) ∗ lowOwes d 1) := rfl
theorem R2_post (d : Dev nD) : (R2 m).post d = iprop(StableHlo.held (d.tc : Thread nD τ) (ucRefs τ sig) (W6 m d) ∗ lowOwes d 1) := rfl

/-- The three buffers of the SparseCore call. -/
def callRefs : Finset (DevRef τ sig) := {Proc.devRef .tc main_v25, Proc.devRef .tc main_v26, Proc.devRef .tc main_v27}

theorem callRefs_sub : callRefs ⊆ ucRefs τ sig := by decide

theorem held_call (d : Dev nD) (V : Valuation τ sig (Elt F)) :
    (StableHlo.held (d.tc : Thread nD τ) (ucRefs τ sig) V : sProp 𝕄)
      = iprop((iPts (V (Proc.devRef .tc main_v25)) d fullShare ∗ tPts (V (Proc.devRef .tc main_v26)) d fullShare
          ∗ oPts d (V (Proc.devRef .tc main_v27))) ∗ StableHlo.held (d.tc : Thread nD τ) (ucRefs τ sig \ callRefs) V) := by
  rw [StableHlo.held_sub_split (d.tc : Thread nD τ) callRefs_sub V]
  congr 1
  unfold StableHlo.held callRefs
  rw [SparseCore.bigSep_insert' (by decide), SparseCore.bigSep_insert' (by decide), bigSep_singleton]

theorem W4_off (d : Dev nD) (b : DevRef τ sig) (h : b ≠ Proc.devRef .tc main_v27) : W4 m d b = W3 m d b := Function.update_of_ne h _ _
theorem W4_v27 (d : Dev nD) : W4 m d (Proc.devRef .tc main_v27) = gath (TBv m d) (IXv m d) := Function.update_self _ _ _

theorem held_W4 (d : Dev nD) :
    (StableHlo.held (d.tc : Thread nD τ) (ucRefs τ sig) (W4 m d) : sProp 𝕄)
      = iprop((iPts (IXv m d) d fullShare ∗ tPts (TBv m d) d fullShare ∗ oPts d (gath (TBv m d) (IXv m d)))
          ∗ StableHlo.held (d.tc : Thread nD τ) (ucRefs τ sig \ callRefs) (W3 m d)) := by
  rw [held_call, W4_v27, W4_off m d _ (by decide), W4_off m d _ (by decide),
    StableHlo.held_congr (d.tc : Thread nD τ) (V := W4 m d) (V' := W3 m d) fun b hb => W4_off m d b fun e =>
      (Finset.mem_sdiff.mp hb).2 (by rw [e]; decide)]

/-- What the main thread leaves: every unscoped buffer at its final contents. -/
abbrev FIN (d : Dev nD) : sProp 𝕄 := StableHlo.held (d.tc : Thread nD τ) (ucRefs τ sig) (W7 m d)

variable (ρ : Dev nD → PrngReg)

set_option maxHeartbeats 1000000 in
theorem hmain (κ : GSem nD τ sig → ℕ) (d : Dev nD) :
    iprop((K (F := F)).ctx EH (Pm m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim d 0
  unfold SparseCore.Cfg.tcRes SparseCore.Cfg.tcEnd Gd
  obtain ⟨R, hR⟩ := tcSt_cut (F := F) (0 : Dev nD)
  rw [main_eq, bigSep_three, bigSep_three, hR, hR]
  iintro ⟨#Hctx, ⟨Ho, Hst⟩, ⟨Hb, Hu, Hts, -⟩, ⟨Hg0, Hg1, Hg2⟩, Ht0, Ht1, Ht2⟩
  ihave Hh := (Entails.of_eq (Pipeline.unscopedBufs_held (0 : Dev nD) (Wm m 0))) $$ Hu
  iapply (StableHlo.wp_seq 𝒱 none Set.univ (0 : Dev nD) (ucRefs τ sig) _ ops0 (sub_uc ops0_sub) (List.forall_iff_forall_mem.mp ops0_fresh) (Wm m 0)) $$ [Hb Hh]
  · isplitl [Hb]; · iexact Hb
    iexact Hh
  rw [after_ops0]
  iintro ⟨Hb, Hh⟩
  rw [wp_bind]
  iapply (region_wp (pdats m) 0 κ (Pm m) (R0 m) (0 : Dev nD) _)
  rw [R0_pre, R0_post]
  isplitr; · iexact Hctx
  isplitl [Hb]; · iexact Hb
  isplitl [Hh Ho]
  · isplitl [Hh]; · iexact Hh
    iexact Ho
  isplitl [Hg0]; · iexact Hg0
  isplitl [Ht0]; · iexact Ht0
  iintro ⟨Hb, Hh, Ho⟩
  rw [wp_bind]
  iapply (region_wp (pdats m) 1 κ (Pm m) (R1 m) (0 : Dev nD) _)
  rw [R1_pre, R1_post]
  isplitr; · iexact Hctx
  isplitl [Hb]; · iexact Hb
  isplitl [Hh Ho]
  · isplitl [Hh]; · iexact Hh
    iexact Ho
  isplitl [Hg1]; · iexact Hg1
  isplitl [Ht1]; · iexact Ht1
  iintro ⟨Hb, Hh, Ho⟩
  iapply (StableHlo.wp_seq 𝒱 none Set.univ (0 : Dev nD) (ucRefs τ sig) _ ops1 (sub_uc ops1_sub) (List.forall_iff_forall_mem.mp ops1_fresh) (W2 m 0)) $$ [Hb Hh]
  · isplitl [Hb]; · iexact Hb
    iexact Hh
  rw [after_ops1]
  iintro ⟨Hb, Hh⟩
  ihave Hs := (Entails.of_eq (held_call (0 : Dev nD) (W3 m 0))) $$ Hh
  icases Hs with ⟨Hcall, Hrest⟩
  rw [wp_bind]
  iapply ((K (F := F)).wp_run (D (F := F)) 𝒱 (EH := EH) (P := Pm m) κ (0 : Dev nD) 0)
  isplitr; · iexact Hctx
  isplitl [Hst Ho]
  · rw [show ((0 : Fin 1).val) = 0 from rfl, hR]
    isplitl [Ho]; · iexact Ho
    iexact Hst
  isplitl [Hcall]
  · rw [st_eq]; iexact Hcall
  rw [dn_eq]
  iintro ⟨Hst, Hcall⟩
  ihave Hh := (Entails.of_eq (held_W4 m (0 : Dev nD)).symm) $$ [Hcall Hrest]
  · isplitl [Hcall]; · iexact Hcall
    iexact Hrest
  iapply (StableHlo.wp_seq 𝒱 none Set.univ (0 : Dev nD) (ucRefs τ sig) _ ops2 (sub_uc ops2_sub) (List.forall_iff_forall_mem.mp ops2_fresh) (W4 m 0)) $$ [Hb Hh]
  · isplitl [Hb]; · iexact Hb
    iexact Hh
  rw [after_ops2]
  iintro ⟨Hb, Hh⟩
  ihave Hst' := (Entails.of_eq (show (K (F := F)).tcSt EH (0 : Dev nD) ((0 : Fin 1).val + 1) = iprop(lowOwes 0 1 ∗ R 1) from hR 1)) $$ Hst
  icases Hst' with ⟨Ho, Hst⟩
  rw [wp_bind]
  iapply (region_wp (pdats m) 2 κ (Pm m) (R2 m) (0 : Dev nD) _)
  rw [R2_pre, R2_post]
  isplitr; · iexact Hctx
  isplitl [Hb]; · iexact Hb
  isplitl [Hh Ho]
  · isplitl [Hh]; · iexact Hh
    iexact Ho
  isplitl [Hg2]; · iexact Hg2
  isplitl [Ht2]; · iexact Ht2
  iintro ⟨Hb, Hh, Ho⟩
  iapply (StableHlo.wp_seq 𝒱 none Set.univ (0 : Dev nD) (ucRefs τ sig) _ ops3 (sub_uc ops3_sub) (List.forall_iff_forall_mem.mp ops3_fresh) (W6 m 0)) $$ [Hb Hh]
  · isplitl [Hb]; · iexact Hb
    iexact Hh
  rw [after_ops3]
  iintro ⟨Hb, Hh⟩
  rw [wp_pure]
  imodintro
  isplitl [Ho Hst]
  · isplitl [Ho]; · iexact Ho
    iexact Hst
  isplitl [Hh]; · iexact Hh
  isplitl [Hb]; · iexact Hb
  iexact Hts

/-- At the end every unscoped buffer holds its final contents. -/
def fq (d : Dev nD) (s' : Phys nD τ sig (Elt F)) : Prop := ∀ b ∈ ucRefs τ sig, s'.mem.mem (d, b) = W7 m d b

theorem hfin (d : Dev nD) (s' : Phys nD τ sig (Elt F)) : iprop(FIN m d ∗ SI s') ⊢ (⌜fq m d s'⌝ : sProp 𝕄) := by
  iintro ⟨H, HSI⟩
  unfold FIN StableHlo.held
  iapply (SI_pointsTo_bufs_agree (st := s') (c := d) (qs := fun _ => fullShare) (F := W7 m d) (ucRefs τ sig))
  isplitl [HSI]; · iexact HSI
  iexact H

/-- The run: the final contents of every unscoped buffer, every semaphore at zero. -/
def QC : PUnit × MemSt nD τ sig (Elt F) → Prop :=
  fun r => (∀ d : Dev nD, ∀ b ∈ ucRefs τ sig, r.2.mem (d, b) = W7 m d b) ∧ r.2.sem = fun _ => 0

theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ (IXv_lt m 0))
    (fun q _ => match q with | 0 => SparseCore.Cfg.VecSplit.of_plain (vecSplit _ _ _))
    m ρ main (fun d => Gd d) (FIN m) (u₀ (F := F)) (sep_elim_left.trans (hu₀ m)) (hmain m ρ) (fq m) (hfin m) (QC m) (fun _ h hz => ⟨h, hz⟩)

end Steps

end Cert.Proof.RI

end
-- ==== Proof.RI.Args.lean ====
/-
  The program's arguments end as they began: no host line writes one, the TensorCore calls only read them, and the
  SparseCore call writes its own result alone.
-/
module

public import Idealize.ShloMosaic.Lib.StableHlo.RunRead
public import proofs.«01_k».proof.Proof.RI.Main

@[expose] public section

set_option maxRecDepth 16384

noncomputable section

namespace Cert.Proof.RI

open Cert.KernelIdeal Cert.KernelIdeal.Gen

open Idealize.ShloMosaic
open Idealize.ShloMosaic.TcCoe
open Idealize.ShloMosaic.StableHlo
open Idealize.ShloMosaic.Pipeline (ucRefs arrRef afterRegion)

variable {F : FTy → Type} [FloatOps F] [Named F]
variable (m : (ℓ : Loc nD τ sig) → Buf (Elt F) ℓ)

/-- The program's arguments. -/
def argRefs : List (Ref sig .tc) :=
  [main_arg0, main_arg1, main_arg2, main_arg3, main_arg4, main_arg5, main_arg6, main_arg7, main_arg8, main_arg9, main_arg10, main_arg11]

/-- What each host line writes. -/
def wrt0 : List (Ref sig .tc) := [main_v0, main_v1, main_v2, main_v3, main_v4, main_v5, main_v6, main_v7, main_v8, main_v9, main_v10]
def wrt1 : List (Ref sig .tc) := [main_v13, main_c, main_v14, main_v15, main_c_0, main_v16, main_v17, main_c_1, main_v18, main_v19, main_v20, main_v21,
  main_v22, main_v23, main_v24, main_v25, main_v26]
def wrt2 : List (Ref sig .tc) := [main_v28]
def wrt3 : List (Ref sig .tc) := [main_v30, main_v31]

theorem W0_off (d : Dev nD) (r : Ref sig .tc) (h : r ∉ wrt0) : W0 m d (Proc.devRef .tc r) = Wm m d (Proc.devRef .tc r) :=
  after_unwritten wrt0 rfl h _
theorem W3_off (d : Dev nD) (r : Ref sig .tc) (h : r ∉ wrt1) : W3 m d (Proc.devRef .tc r) = W2 m d (Proc.devRef .tc r) :=
  after_unwritten wrt1 rfl h _
theorem W5_off (d : Dev nD) (r : Ref sig .tc) (h : r ∉ wrt2) : W5 m d (Proc.devRef .tc r) = W4 m d (Proc.devRef .tc r) :=
  after_unwritten wrt2 rfl h _
theorem W7_off (d : Dev nD) (r : Ref sig .tc) (h : r ∉ wrt3) : W7 m d (Proc.devRef .tc r) = W6 m d (Proc.devRef .tc r) :=
  after_unwritten wrt3 rfl h _

theorem W1_off (d : Dev nD) (r : Ref sig .tc) (h : ∀ w, arrRef spec0 w = r → (cfg0.win w).isOut = false) :
    W1 m d (Proc.devRef .tc r) = W0 m d (Proc.devRef .tc r) :=
  Pipeline.afterRegion_keeps (rtDat (W0 m) d) (W0 m d) winFacts0.arr_inj (fun w => rtA (W0 m) d w) r h
theorem W2_off (d : Dev nD) (r : Ref sig .tc) (h : ∀ w, arrRef spec1 w = r → (cfg1.win w).isOut = false) :
    W2 m d (Proc.devRef .tc r) = W1 m d (Proc.devRef .tc r) :=
  Pipeline.afterRegion_keeps (kvDat (W1 m) d) (W1 m d) winFacts1.arr_inj (fun w => kvA (W1 m) d w) r h
theorem W6_off (d : Dev nD) (r : Ref sig .tc) (h : ∀ w, arrRef spec3 w = r → (cfg3.win w).isOut = false) :
    W6 m d (Proc.devRef .tc r) = W5 m d (Proc.devRef .tc r) :=
  Pipeline.afterRegion_keeps (atDat (W5 m) d) (W5 m d) winFacts3.arr_inj (fun w => atA (W5 m) d w) r h

theorem arg_ok : ∀ r ∈ argRefs, r ∉ wrt0 ∧ r ∉ wrt1 ∧ r ∉ wrt2 ∧ r ∉ wrt3 ∧ r ≠ main_v27
    ∧ (∀ w, arrRef spec0 w = r → (cfg0.win w).isOut = false) ∧ (∀ w, arrRef spec1 w = r → (cfg1.win w).isOut = false)
    ∧ (∀ w, arrRef spec3 w = r → (cfg3.win w).isOut = false) ∧ Proc.devRef (τ := τ) .tc r ∈ ucRefs τ sig := by decide

/-- Every argument ends at its launch contents. -/
theorem W7_arg (d : Dev nD) (r : Ref sig .tc) (hr : r ∈ argRefs) : W7 m d (Proc.devRef .tc r) = m ((d.tc : Thread nD τ).loc r) := by
  obtain ⟨h0, h1, h2, h3, hn, r0, r1, r3, -⟩ := arg_ok r hr
  rw [W7_off m d r h3, W6_off m d r r3, W5_off m d r h2, W4_off m d _ fun e => hn (Proc.devRef_injective _ e), W3_off m d r h1, W2_off m d r r1,
    W1_off m d r r0, W0_off m d r h0]

/-- The run, read at the arguments: unchanged on every device, every semaphore at zero. -/
theorem run_args [∀ e, Nonempty (Elt F e)] (ρ : Dev nD → PrngReg) :
    θ_run (defs (F := F)) (threads (F := F)) ⟨m, fun _ => 0, ρ⟩
      (fun r => (∀ c : Dev nD, ∀ b ∈ argRefs, r.2.mem ((c.tc : Thread nD τ).loc b) = m ((c.tc : Thread nD τ).loc b)) ∧ r.2.sem = fun _ => 0) :=
  (θ_run (defs (F := F)) _ _).mono (fun _ h => ⟨fun c b hb => (h.1 c (Proc.devRef .tc b) (arg_ok b hb).2.2.2.2.2.2.2.2).trans (W7_arg m c b hb), h.2⟩)
    (run_main m ρ)

end Cert.Proof.RI
-- ==== Proof.RI.Frames.lean ====
/-
  The frames: each program runs, keeps its arguments and ends with every semaphore at zero.
-/
module

public import proofs.«01_k».proof.Defs
public import proofs.«01_k».proof.Proof.Gen.ReferenceIdeal
public import proofs.«01_k».proof.Proof.Gen.ReferenceIdeal.Run
public import proofs.«01_k».proof.Proof.RI.Args

@[expose] public section

noncomputable section

namespace Cert.Proof.RI

open Idealize.ShloMosaic Idealize.SL.Sem
open Cert.KernelIdeal

/-- A fact of every argument is the fact of each of the twelve. -/
theorem args_all (Q : Ref sig .tc → Prop) (h : ∀ b ∈ argRefs, Q b) :
    Q main_arg0 ∧ Q main_arg1 ∧ Q main_arg2 ∧ Q main_arg3 ∧ Q main_arg4 ∧ Q main_arg5 ∧ Q main_arg6 ∧ Q main_arg7 ∧ Q main_arg8 ∧ Q main_arg9
      ∧ Q main_arg10 ∧ Q main_arg11 :=
  ⟨h _ (by decide), h _ (by decide), h _ (by decide), h _ (by decide), h _ (by decide), h _ (by decide), h _ (by decide), h _ (by decide),
    h _ (by decide), h _ (by decide), h _ (by decide), h _ (by decide)⟩

theorem frame_ideal : Cert.quiescent_KernelIdeal := fun m g _ =>
  (θ_run (defs (F := Ideal)) _ _).mono
    (fun _ h => ⟨fun c => args_all _ (h.1 c), h.2⟩) (run_args m g)

theorem frame_reference : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

end Cert.Proof.RI
-- ==== Proof.RI.Word.lean ====
/-
  The kernel as written, over machine words: the same program with the masking constant's own bits where the ideal reading has
  the named constant.
-/
module

public import proofs.«01_k».proof.Defs
public import proofs.«01_k».proof.Proof.Gen.Kernel
public import proofs.«01_k».proof.Proof.RI.Frames

@[expose] public section

noncomputable section

namespace Cert.Proof.RI

open Idealize.ShloMosaic Idealize.SL.Sem

/-- Over machine words a named constant is its bits. -/
local instance : Named Bits := ⟨fun _ _ {φ} b => FloatOps.ofBits φ b⟩

/-- The frame of the ideal program's text, read over machine words. -/
theorem frame_named (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (Cert.KernelIdeal.threads (F := Bits)) ⟨m, fun _ => 0, g⟩
      (fun r => (∀ c : Dev Cert.KernelIdeal.nD, ∀ b ∈ argRefs,
        r.2.mem ((c.tc : Thread Cert.KernelIdeal.nD Cert.KernelIdeal.τ).loc b) = m ((c.tc : Thread Cert.KernelIdeal.nD Cert.KernelIdeal.τ).loc b)) ∧ r.2.sem = fun _ => 0) :=
  run_args (F := Bits) m g

theorem sig_eq : Cert.Kernel.sig = Cert.KernelIdeal.sig := rfl

set_option maxHeartbeats 4000000 in
theorem defs₀_eq : Cert.Kernel.defs₀ (F := Bits) = Cert.KernelIdeal.defs₀ (F := Bits) := by
  funext p l a
  match p, l, a with
  | .tc, 0, (t, s) => rfl
  | .tc, 1, (t, s) => rfl
  | .tc, 2, _ => rfl
  | .tc, 3, (t, s) => rfl
  | .scScalar c, 0, _ => rfl
  | .scScalar c, 1, _ => rfl
  | .scScalar c, 2, _ => rfl
  | .scScalar c, 3, _ => rfl
  | .scVector c s, 0, _ => rfl
  | .scVector c s, 1, _ => rfl
  | .scVector c s, 2, _ => rfl
  | .scVector c s, 3, _ => rfl

set_option maxHeartbeats 4000000 in
theorem threads_eq : Cert.Kernel.threads (F := Bits) = Cert.KernelIdeal.threads (F := Bits) := rfl

theorem defs_eq : Cert.Kernel.defs (F := Bits) = Cert.KernelIdeal.defs (F := Bits) :=
  congrArg (fun D => Cert.KernelIdeal.sc.defs (Pipeline.defs (Cert.KernelIdeal.pcfgs (F := Bits)) D)) defs₀_eq

set_option maxHeartbeats 4000000 in
theorem frame_word : Cert.quiescent_Kernel := by
  intro m g _
  rw [defs_eq, threads_eq]
  exact (θ_run (Cert.KernelIdeal.defs (F := Bits)) _ _).mono (fun _ h => ⟨fun c => args_all _ (h.1 c), h.2⟩) (frame_named m g)

end Cert.Proof.RI
-- ==== Proof.RV.Hot.lean ====
/-
  The attention call's four tables of zeros and ones, read at an element: which token a gathered row belongs to, and which head a
  column belongs to.
-/
module

public import proofs.«01_k».proof.Proof.RI.Attn
public import Idealize.ShloMosaic.Lib.Pointwise

@[expose] public section

set_option maxRecDepth 65536

noncomputable section

namespace Cert.Proof.RV

open Idealize.ShloMosaic Cert.KernelIdeal Cert.KernelIdeal.Gen Cert.Proof.RI

/-- The word the tables' quotient toward minus infinity is. -/
def floorWord (a k : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi CmpIPredicate.sgt k 0#32)) (Scalar.extui (Scalar.cmpi CmpIPredicate.slt k 0#32))))
      (IntOp.cmpi CmpIPredicate.ne (IntOp.remsi ArithUnit.vector a k) 0#32))
    (IntOp.subi (IntOp.divsi ArithUnit.vector a k) 1#32)
    (IntOp.divsi ArithUnit.vector a k)

theorem floor_eight : ∀ a : Fin 2048, floorWord (BitVec.ofNat 32 a.val) 8#32 = BitVec.ofNat 32 (a.val / 8) := by decide +kernel
theorem floor_head : ∀ a : Fin 1024, floorWord (BitVec.ofNat 32 a.val) 64#32 = BitVec.ofNat 32 (a.val / 64) := by decide +kernel

/-- A table's entry: one where the two numbers agree. -/
theorem hot_eq (φ : FTy) (a b : Nat) (ha : a < 2 ^ 31) (hb : b < 2 ^ 31) :
    (FloatOps.sitofp φ (BitVec.setWidth 32 (IntOp.cmpi CmpIPredicate.eq (BitVec.ofNat 32 a) (BitVec.ofNat 32 b))) : Ideal φ)
      = if a = b then (1 : EReal) else 0 := by
  have hab : ((BitVec.ofNat 32 a == BitVec.ofNat 32 b) : Bool) = decide (a = b) := by
    rw [Bool.eq_iff_iff, beq_iff_eq, decide_eq_true_iff]
    refine ⟨fun h => ?_, fun h => by rw [h]⟩
    have := congrArg BitVec.toNat h
    simp only [BitVec.toNat_ofNat] at this
    omega
  show (((BitVec.setWidth 32 (BitVec.ofBool (BitVec.ofNat 32 a == BitVec.ofNat 32 b))).toInt : ℝ) : EReal) = _
  rw [hab]
  by_cases h : a = b
  · simp [h]
  · simp [h]

theorem rep_apply (r : Fin 2048) (p : Fin 256) : k3_pay9 (F := Ideal) (ix2 r p) = if r.val / 8 = p.val then (1 : EReal) else 0 := by
  unfold k3_pay9
  pointwise []
  refine Eq.trans (congrArg (fun w => FloatOps.sitofp FTy.f32 (BitVec.setWidth 32 (IntOp.cmpi CmpIPredicate.eq w (BitVec.ofNat 32 p.val))))
    (floor_eight r)) (hot_eq _ _ _ ?_ ?_) <;> omega

theorem sumTab_apply (p : Fin 256) (r : Fin 2048) : k3_pay10 (F := Ideal) (ix2 p r) = if r.val / 8 = p.val then (1 : EReal) else 0 := by
  unfold k3_pay10
  pointwise []
  refine Eq.trans (congrArg (fun w => FloatOps.sitofp FTy.f32 (BitVec.setWidth 32 (IntOp.cmpi CmpIPredicate.eq w (BitVec.ofNat 32 p.val))))
    (floor_eight r)) (hot_eq _ _ _ ?_ ?_) <;> omega

theorem head_apply (d : Fin 1024) (h : Fin 16) : k3_pay4 (F := Ideal) (ix2 d h) = if d.val / 64 = h.val then (1 : EReal) else 0 := by
  unfold k3_pay4
  pointwise []
  refine Eq.trans (congrArg (fun w => FloatOps.sitofp FTy.f32 (BitVec.setWidth 32 (IntOp.cmpi CmpIPredicate.eq w (BitVec.ofNat 32 h.val))))
    (floor_head d)) (hot_eq _ _ _ ?_ ?_) <;> omega

/-- The table of heads by columns, as the body forms it. -/
theorem headT_apply (h : Fin 16) (d : Fin 1024) : k3_pay8 (F := Ideal) (iota .tc S16x1024 32 [0] iota_S16x1024_d0_w32) (iota .tc S16x1024 32 [1] iota_S16x1024_d1_w32) 64#32 k3_pay5 k3_pay6 k3_pay7 (ix2 h d)
      = if d.val / 64 = h.val then (1 : EReal) else 0 := by
  unfold k3_pay8 k3_pay5 k3_pay6 k3_pay7
  pointwise []
  refine Eq.trans (congrArg (fun w => FloatOps.sitofp FTy.f32 (BitVec.setWidth 32 (IntOp.cmpi CmpIPredicate.eq w (BitVec.ofNat 32 h.val))))
    (floor_head d)) (hot_eq _ _ _ ?_ ?_) <;> omega

/-- A sum against a table's line of ones: the sum over the positions of the line. -/
theorem sum_line {n m c : Nat} (hn : n = m * c) (hc : 0 < c) (f : Fin n → EReal) (h : Fin m) :
    (∑ d : Fin n, if d.val / c = h.val then f d else 0)
      = ∑ x : Fin c, f ⟨h.val * c + x.val, by have := Nat.mul_le_mul_right c h.isLt; rw [Nat.succ_mul] at this; omega⟩ := by
  rw [← Finset.sum_filter]
  symm
  refine Finset.sum_bij (fun x _ => ⟨h.val * c + x.val, by have := Nat.mul_le_mul_right c h.isLt; rw [Nat.succ_mul] at this; omega⟩)
    (fun x _ => ?_) (fun x _ y _ e => ?_) (fun d hd => ?_) (fun x _ => rfl)
  · refine Finset.mem_filter.mpr ⟨Finset.mem_univ _, ?_⟩
    show (h.val * c + x.val) / c = h.val
    rw [Nat.mul_comm, Nat.mul_add_div hc, Nat.div_eq_of_lt x.isLt, Nat.add_zero]
  · have := congrArg Fin.val e
    exact Fin.ext (by simpa using this)
  · have hd' := (Finset.mem_filter.mp hd).2
    refine ⟨⟨d.val % c, Nat.mod_lt _ hc⟩, Finset.mem_univ _, Fin.ext ?_⟩
    show h.val * c + d.val % c = d.val
    rw [← hd', Nat.mul_comm]
    exact Nat.div_add_mod _ _

end Cert.Proof.RV
-- ==== Proof.RV.Top.lean ====
/-
  The best eight of a row of scores: the order a stable sort by score puts the positions in, and what is left of the row when
  the first of them have been taken out one at a time.
-/
module

public import Idealize.ShloMosaic.Lib.SortFacts
public import Idealize.ShloMosaic.PureOps.Ideal.Laws

@[expose] public section

noncomputable section

namespace Cert.Proof.RV

open Idealize.ShloMosaic

variable {n : ℕ} (f : Fin n → EReal)

/-- `a` stands before `b`: it scores more, or as much at a lower position. -/
def Ahead (a b : Fin n) : Prop := f b < f a ∨ (f a = f b ∧ a < b)

theorem Ahead.trans {a b c : Fin n} (h : Ahead f a b) (h' : Ahead f b c) : Ahead f a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- The comparison the sort runs by. -/
def more (a b : Fin n) : Bool := decide (f b < f a)

/-- The position of the `j`-th best score. -/
def best (j : Fin n) : Fin n := sortedFrom (more f) j

theorem ahead_insert (a : Fin n) (l : List (Fin n)) (hl : l.Pairwise (Ahead f)) (ha : ∀ b ∈ l, a < b) :
    (insertBefore (more f) a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact .inl (of_decide_eq_true h)
      · exact hl.1 c hc'
    · rename_i h
      have hab : Ahead f a b := by
        have h' : ¬ f a < f b := fun e => h (decide_eq_true e)
        rcases lt_or_eq_of_le (not_lt.mp h') with e | e
        · exact .inl e
        · exact .inr ⟨e.symm, ha b (List.mem_cons_self ..)⟩
      refine List.pairwise_cons.mpr ⟨fun c hc => ?_, List.pairwise_cons.mpr hl⟩
      rcases List.mem_cons.mp hc with rfl | hc'
      · exact hab
      · exact hab.trans f (hl.1 c hc')

theorem ahead_sort (l : List (Fin n)) (hl : l.Pairwise (· < ·)) : (stableSort (more f) l).Pairwise (Ahead f) := by
  induction l with
  | nil => exact List.Pairwise.nil
  | cons a l ih =>
    rw [List.pairwise_cons] at hl
    unfold stableSort
    exact ahead_insert f a _ (ih hl.2) fun b hb => hl.1 b ((perm_stableSort _ l).mem_iff.mp hb)

/-- An earlier place holds a position that stands before a later place's. -/
theorem best_ahead {i j : Fin n} (h : i < j) : Ahead f (best f i) (best f j) := by
  have hp : ∀ a b : Fin (sortPositions n (more f)).length, a < b →
      Ahead f ((sortPositions n (more f)).get a) ((sortPositions n (more f)).get b) :=
    List.pairwise_iff_get.mp (ahead_sort f _ (List.pairwise_lt_finRange n))
  unfold best sortedFrom
  exact hp _ _ (by simp only [Fin.lt_def, Fin.val_cast]; exact h)

theorem best_surjective : Function.Surjective (best f) := sortedFrom_surjective _
theorem best_injective : Function.Injective (best f) := sortedFrom_injective _

/-- The row with its best `r` scores taken out. -/
def left (r : ℕ) (x : Fin n) : EReal := if ∃ j : Fin n, j.val < r ∧ best f j = x then ⊥ else f x

theorem left_zero : left f 0 = f := by
  funext x
  unfold left
  exact if_neg (by rintro ⟨j, h, -⟩; exact absurd h (Nat.not_lt_zero _))

theorem left_succ (r : Fin n) (x : Fin n) : left f (r.val + 1) x = if x = best f r then ⊥ else left f r.val x := by
  unfold left
  by_cases hx : x = best f r
  · rw [if_pos hx, if_pos ⟨r, Nat.lt_succ_self _, hx.symm⟩]
  · rw [if_neg hx]
    congr 1
    refine propext ⟨?_, ?_⟩
    · rintro ⟨j, h, e⟩
      refine ⟨j, ?_, e⟩
      rcases Nat.lt_succ_iff_lt_or_eq.mp h with h | h
      · exact h
      · exact absurd (by rw [← e, Fin.ext h]) hx
    · rintro ⟨j, h, e⟩
      exact ⟨j, Nat.lt_succ_of_lt h, e⟩

theorem left_best (r : Fin n) : left f r.val (best f r) = f (best f r) := by
  unfold left
  refine if_neg ?_
  rintro ⟨j, h, e⟩
  rw [best_injective f e] at h
  exact absurd h (lt_irrefl _)

/-- Every score that is left is at most the best one left. -/
theorem left_le (r : Fin n) (x : Fin n) : left f r.val x ≤ f (best f r) := by
  obtain ⟨j, rfl⟩ := best_surjective f x
  rcases lt_trichotomy j r with h | h | h
  · unfold left
    rw [if_pos ⟨j, h, rfl⟩]
    exact bot_le
  · rw [h, left_best]
  · have hl : left f r.val (best f j) = f (best f j) := by
      unfold left
      refine if_neg ?_
      rintro ⟨j', h', e⟩
      rw [best_injective f e] at h'
      exact absurd (h'.trans h) (lt_irrefl _)
    rw [hl]
    rcases best_ahead f h with e | ⟨e, -⟩
    · exact e.le
    · exact e.ge

/-- A position whose score is as good as the best one left stands at or behind it. -/
theorem best_le (hf : ∀ x, ⊥ < f x) (r : Fin n) (x : Fin n) (h : left f r.val x = f (best f r)) : best f r ≤ x := by
  obtain ⟨j, rfl⟩ := best_surjective f x
  rcases lt_trichotomy j r with hj | hj | hj
  · unfold left at h
    rw [if_pos ⟨j, hj, rfl⟩] at h
    exact absurd (hf (best f r)) (by rw [← h]; exact lt_irrefl _)
  · rw [hj]
  · have hl : left f r.val (best f j) = f (best f j) := by
      unfold left
      refine if_neg ?_
      rintro ⟨j', h', e⟩
      rw [best_injective f e] at h'
      exact absurd (h'.trans hj) (lt_irrefl _)
    rcases best_ahead f hj with e | ⟨-, e⟩
    · rw [hl] at h
      exact absurd e (by rw [h]; exact lt_irrefl _)
    · exact e.le

end Cert.Proof.RV
-- ==== Proof.RV.Spec.lean ====
/-
  What both programs compute, as functions of the twelve arguments read entry by entry: the eight best states of a token, and the
  token's attention over their keys and values.
-/
module

public import proofs.«01_k».proof.Proof.RV.Top
public import Idealize.ShloMosaic.Lib.Pointwise

@[expose] public section

noncomputable section

namespace Cert.Proof.RV

open Idealize.ShloMosaic

/-- The factor of a score. -/
def eighth : EReal := Ideal.ofBits .f32 0x3E000000#32

/-- A head's column. -/
def hCol (h : Fin 16) (x : Fin 64) : Fin 1024 := ⟨h.val * 64 + x.val, by omega⟩

/-- The head of a column. -/
def headOf (d : Fin 1024) : Fin 16 := ⟨d.val / 64, by omega⟩

/-- The twelve arguments: tokens, states, and five projections' weights and biases. -/
structure Ins where
  tok : Fin 2 → Fin 2048 → Fin 1024 → EReal
  st : Fin 2 → Fin 1024 → Fin 1024 → EReal
  rw_ : Fin 1024 → Fin 1024 → EReal
  rb : Fin 1024 → EReal
  qw : Fin 1024 → Fin 1024 → EReal
  qb : Fin 1024 → EReal
  kw : Fin 1024 → Fin 1024 → EReal
  kb : Fin 1024 → EReal
  vw : Fin 1024 → Fin 1024 → EReal
  vb : Fin 1024 → EReal
  ow : Fin 1024 → Fin 1024 → EReal
  ob : Fin 1024 → EReal

/-- A row against a row of weights, with the bias. -/
def lin (x : Fin 1024 → EReal) (w : Fin 1024 → Fin 1024 → EReal) (b : Fin 1024 → EReal) (d : Fin 1024) : EReal :=
  (∑ e : Fin 1024, x e * w d e) + b d

namespace Ins

variable (a : Ins) (b : Fin 2) (s : Fin 2048)

/-- The score of token `s` against state `n`. -/
def score (n : Fin 1024) : EReal := ∑ d : Fin 1024, lin (a.tok b s) a.rw_ a.rb d * a.st b n d

/-- The token's choice `k`. -/
def sel (k : Fin 8) : Fin 1024 := best (a.score b s) (k.castLE (by decide))

/-- The scaled product of the token's query and choice `k`'s key, at head `h`. -/
def logit (h : Fin 16) (k : Fin 8) : EReal :=
  (∑ x : Fin 64, lin (a.tok b s) a.qw a.qb (hCol h x) * lin (a.st b (a.sel b s k)) a.kw a.kb (hCol h x)) * eighth

/-- The weight of choice `k` at head `h`. -/
def weight (h : Fin 16) (k : Fin 8) : EReal := Ideal.div (Ideal.exp (a.logit b s h k)) (∑ k' : Fin 8, Ideal.exp (a.logit b s h k'))

/-- The mixed value at column `d`. -/
def mix (d : Fin 1024) : EReal := ∑ k : Fin 8, a.weight b s (headOf d) k * lin (a.st b (a.sel b s k)) a.vw a.vb d

/-- The result. -/
def out (e : Fin 1024) : EReal := lin (a.mix b s) a.ow a.ob e

end Ins

end Cert.Proof.RV
-- ==== Proof.RV.AtPay.lean ====
/-
  The attention body's two results, read at an element: weights of a token's gathered rows, and the mixed values projected out.
-/
module

public import proofs.«01_k».proof.Proof.RV.Hot
public import proofs.«01_k».proof.Proof.RV.Spec

@[expose] public section

set_option maxRecDepth 65536

noncomputable section

namespace Cert.Proof.RV

open Idealize.ShloMosaic Cert.KernelIdeal Cert.KernelIdeal.Gen Cert.Proof.RI

/-- The score of gathered row `r` at head `h`. -/
def rowLogit (q : S1x256x1024.Idx → EReal) (kv : S2048x2048.Idx → EReal) (r : Fin 2048) (h : Fin 16) : EReal :=
  (∑ x : Fin 64, q (ix3 0 (⟨r.val / 8, by omega⟩ : Fin 256) (⟨h.val * 64 + x.val, by omega⟩ : Fin 1024))
    * kv (ix2 r (⟨h.val * 64 + x.val, by omega⟩ : Fin 2048))) * eighth

/-- The weight of gathered row `r` at head `h`. -/
def rowWeight (q : S1x256x1024.Idx → EReal) (kv : S2048x2048.Idx → EReal) (r : Fin 2048) (h : Fin 16) : EReal :=
  Ideal.div (Ideal.exp (rowLogit q kv r h)) (∑ k : Fin 8, Ideal.exp (rowLogit q kv ⟨r.val / 8 * 8 + k.val, by omega⟩ h))

/-- A product with a table's line that has one one: the entry it picks. -/
theorem sum_pick {n : Nat} (a : Nat) (ha : a < n) (g : Fin n → EReal) : (∑ x : Fin n, (if a = x.val then (1 : EReal) else 0) * g x) = g ⟨a, ha⟩ := by
  rw [Finset.sum_eq_single (⟨a, ha⟩ : Fin n)]
  · simp
  · intro x _ hx
    have : a ≠ x.val := fun e => hx (Fin.ext e.symm)
    simp [this]
  · simp

theorem sum_picked {n : Nat} (a : Nat) (ha : a < n) (g : Fin n → EReal) : (∑ x : Fin n, g x * (if a = x.val then (1 : EReal) else 0)) = g ⟨a, ha⟩ := by
  rw [← sum_pick a ha g]
  exact Finset.sum_congr rfl fun _ _ => mul_comm _ _

/-- A product with a table's line of ones. -/
theorem sum_times_line {n m c : Nat} (hn : n = m * c) (hc : 0 < c) (f : Fin n → EReal) (h : Fin m) :
    (∑ d : Fin n, f d * (if d.val / c = h.val then (1 : EReal) else 0))
      = ∑ x : Fin c, f ⟨h.val * c + x.val, by have := Nat.mul_le_mul_right c h.isLt; rw [Nat.succ_mul] at this; omega⟩ := by
  rw [← sum_line hn hc f h]
  refine Finset.sum_congr rfl fun d _ => ?_
  split <;> simp

theorem sum_line_times {n m c : Nat} (hn : n = m * c) (hc : 0 < c) (f : Fin n → EReal) (h : Fin m) :
    (∑ d : Fin n, (if d.val / c = h.val then (1 : EReal) else 0) * f d)
      = ∑ x : Fin c, f ⟨h.val * c + x.val, by have := Nat.mul_le_mul_right c h.isLt; rw [Nat.succ_mul] at this; omega⟩ := by
  rw [← sum_times_line hn hc f h]
  exact Finset.sum_congr rfl fun d _ => mul_comm _ _

/-- The products behind a score are the sum over the head's columns. -/
theorem logit_fold (q : S1x256x1024.Idx → EReal) (kv : S2048x2048.Idx → EReal) (r : Fin 2048) (h : Fin 16) :
    (∑ d : Fin 1024, (∑ p : Fin 256, (if r.val / 8 = p.val then (1 : EReal) else 0) * q (ix3 0 p d)) * kv (ix2 r (⟨d.val, by omega⟩ : Fin 2048))
      * (if d.val / 64 = h.val then (1 : EReal) else 0)) * Ideal.ofBits .f32 0x3E000000#32 = rowLogit q kv r h := by
  unfold rowLogit eighth
  congr 1
  rw [sum_times_line (m := 16) (c := 64) rfl (by decide)]
  refine Finset.sum_congr rfl fun x _ => ?_
  rw [sum_pick _ (by omega)]

theorem weights_apply (q : Vec Ideal S1x256x1024 .f32) (kv : Vec Ideal S2048x2048 .f32) (r : Fin 2048) (h : Fin 16) :
    atWeights q kv (ix2 r h) = rowWeight q kv r h := by
  unfold atWeights k3_pay11 k3_pay2 k3_pay3
  pointwise [dot_S2048x256_S256x1024_S2048x1024_1_0_0_1_n_n, dot_S2048x1024_S1024x16_S2048x16_1_0_0_1_n_n, dot_S256x2048_S2048x16_S256x16_1_0_0_1_n_n, dot_S2048x256_S256x16_S2048x16_1_0_0_1_n_n]
  simp only [rep_apply, sumTab_apply, head_apply]
  simp only [logit_fold]
  rw [sum_pick _ (by omega), sum_line_times (m := 256) (c := 8) rfl (by decide)]
  rfl

theorem attn_apply (q : Vec Ideal S1x256x1024 .f32) (kv : Vec Ideal S2048x2048 .f32) (z : Fin 1) (r : Fin 2048) (h : Fin 16) :
    k3_pay12 (k3_pay2 q) (k3_pay3 kv) k3_pay4 k3_pay9 (ix3 z r h) = rowWeight q kv r h := by
  rw [← weights_apply]
  unfold k3_pay12 atWeights
  pointwise []

/-- The mixed value of token `p` at column `d`. -/
def rowMix (q : S1x256x1024.Idx → EReal) (kv : S2048x2048.Idx → EReal) (p : Fin 256) (d : Fin 1024) : EReal :=
  ∑ k : Fin 8, rowWeight q kv ⟨p.val * 8 + k.val, by omega⟩ ⟨d.val / 64, by omega⟩
    * kv (ix2 (⟨p.val * 8 + k.val, by omega⟩ : Fin 2048) (⟨1024 + d.val, by omega⟩ : Fin 2048))

theorem result_apply (q : Vec Ideal S1x256x1024 .f32) (kv : Vec Ideal S2048x2048 .f32) (ow : Vec Ideal S1024x1024 .f32) (ob : Vec Ideal S1x1024 .f32)
    (z : Fin 1) (p : Fin 256) (e : Fin 1024) :
    atResult q kv ow ob (ix3 z p e) = (∑ d : Fin 1024, rowMix q kv p d * ow (ix2 d e)) + ob (ix2 0 e) := by
  unfold atResult
  have hT := headT_apply
  generalize k3_pay8 (F := Ideal) _ _ _ _ _ _ = T at hT ⊢
  unfold k3_pay1 k3_pay3
  pointwise [dot_S2048x16_S16x1024_S2048x1024_1_0_0_1_n_n, dot_S256x2048_S2048x1024_S256x1024_1_0_0_1_n_n, dot_S256x1024_S1024x1024_S256x1024_1_0_0_1_n_n]
  simp only [weights_apply, hT, sumTab_apply]
  congr 1
  refine Finset.sum_congr rfl fun d _ => ?_
  congr 1
  rw [sum_line_times (m := 256) (c := 8) rfl (by decide)]
  refine Finset.sum_congr rfl fun k _ => ?_
  rw [sum_picked _ (by omega)]

end Cert.Proof.RV
-- ==== Proof.RV.Pay.lean ====
/-
  The products of the TensorCore calls at the extended reals, read at an element: projections of rows, scores of tokens against
  states.
-/
module

public import proofs.«01_k».proof.Proof.RI.Route
public import proofs.«01_k».proof.Proof.RI.Kv
public import Idealize.ShloMosaic.Lib.Pointwise

@[expose] public section

set_option maxRecDepth 65536

noncomputable section

namespace Cert.Proof.RV

open Idealize.ShloMosaic Cert.KernelIdeal Cert.KernelIdeal.Gen Cert.Proof.RI

theorem score_apply (tok : Vec Ideal S1x256x1024 .f32) (rwt : Vec Ideal S1024x1024 .f32) (rb : Vec Ideal S1x1024 .f32)
    (st : Vec Ideal S1x1024x1024 .f32) (p : Fin 256) (n : Fin 1024) :
    k0_pay2 tok rwt rb st (ix2 p n)
      = ∑ d : Fin 1024, ((∑ e : Fin 1024, tok (ix3 0 p e) * rwt (ix2 e d)) + rb (ix2 0 d)) * st (ix3 0 d n) := by
  unfold k0_pay2 k0_pay1
  pointwise [dot_S256x1024_S1024x1024_S256x1024_1_0_0_1_n_n]

theorem query_apply (tok : Vec Ideal S1x256x1024 .f32) (qw : Vec Ideal S1024x1024 .f32) (qb : Vec Ideal S1x1024 .f32) (z : Fin 1) (p : Fin 256)
    (d : Fin 1024) :
    k0_pay16 (k0_pay1 tok) qw qb (ix3 z p d) = (∑ e : Fin 1024, tok (ix3 0 p e) * qw (ix2 e d)) + qb (ix2 0 d) := by
  unfold k0_pay16 k0_pay1
  pointwise [dot_S256x1024_S1024x1024_S256x1024_1_0_0_1_n_n]

theorem keys_apply (st : Vec Ideal S1x1024x1024 .f32) (w : Vec Ideal S1024x1024 .f32) (b : Vec Ideal S1x1024 .f32) (z : Fin 1) (n d : Fin 1024) :
    k1_pay2 st w b (ix3 z n d) = (∑ e : Fin 1024, st (ix3 0 n e) * w (ix2 e d)) + b (ix2 0 d) := by
  unfold k1_pay2 k1_pay1
  pointwise [dot_S1024x1024_S1024x1024_S1024x1024_1_0_0_1_n_n]

theorem values_apply (st : Vec Ideal S1x1024x1024 .f32) (w : Vec Ideal S1024x1024 .f32) (b : Vec Ideal S1x1024 .f32) (z : Fin 1) (n d : Fin 1024) :
    k1_pay3 st w b (ix3 z n d) = (∑ e : Fin 1024, st (ix3 0 n e) * w (ix2 e d)) + b (ix2 0 d) := by
  unfold k1_pay3 k1_pay1
  pointwise [dot_S1024x1024_S1024x1024_S1024x1024_1_0_0_1_n_n]

end Cert.Proof.RV
-- ==== Proof.RV.KvArray.lean ====
/-
  The table of keys and values after its call, as one function of the arrays the call reads.
-/
module

public import proofs.«01_k».proof.Proof.RV.Pay
public import Idealize.ShloMosaic.Lib.Pipeline.ValueKit.Geometry
public import Idealize.ShloMosaic.Lib.Pipeline.ValueKit.Tiles

@[expose] public section

set_option maxRecDepth 65536

noncomputable section

namespace Cert.Proof.RV

open Idealize.ShloMosaic Cert.KernelIdeal Cert.KernelIdeal.Gen Cert.Proof.RI
open Idealize.ShloMosaic.Pipeline (Dat arrRef)
open Idealize.ShloMosaic.ValueKit

/-- A row of `x` against column `d` of `w`, with the bias. -/
def rowCol {M : ℕ} (x : (⟨3, ![2, M, 1024]⟩ : Shape).Idx → EReal) (w : S1024x1024.Idx → EReal) (bias : S1x1024.Idx → EReal) (b : Fin 2)
    (n : Fin M) (d : Fin 1024) : EReal :=
  (∑ e : Fin 1024, x (ix3 b n e) * w (ix2 e d)) + bias (ix2 0 d)

/-- The table: the keys in the left half of the columns, the values in the right. -/
def kvTab (st : S2x1024x1024.Idx → EReal) (kw vw : S1024x1024.Idx → EReal) (kb vb : S1x1024.Idx → EReal) (i : S2x1024x2048.Idx) : EReal :=
  if h : (i 2).val < 1024 then rowCol (M := 1024) st kw kb (i 0) (i 1) ⟨(i 2).val, h⟩
  else rowCol (M := 1024) st vw vb (i 0) (i 1) ⟨(i 2).val - 1024, by have : (i 2).val < 2048 := (i 2).isLt; omega⟩

theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

theorem kvOut_apply (st : Vec Ideal S1x1024x1024 .f32) (kw vw : Vec Ideal S1024x1024 .f32) (kb vb : Vec Ideal S1x1024 .f32) (z : Fin 1)
    (n : Fin 1024) (d : Fin 2048) :
    kvOut st kw vw kb vb (ix3 z n d)
      = if h : d.val < 1024 then (∑ e : Fin 1024, st (ix3 0 n e) * kw (ix2 e ⟨d.val, h⟩)) + kb (ix2 0 ⟨d.val, h⟩)
        else (∑ e : Fin 1024, st (ix3 0 n e) * vw (ix2 e ⟨d.val - 1024, by omega⟩)) + vb (ix2 0 ⟨d.val - 1024, by omega⟩) := by
  unfold kvOut
  rw [show View.ld st kvR3 = st from View.ld_unit_zero zero3 _ _, show View.ld kw kvR2 = kw from View.ld_unit_zero zero2 _ _,
    show View.ld vw kvR2 = vw from View.ld_unit_zero zero2 _ _, show View.ld kb kvR1 = kb from View.ld_unit_zero zero2 _ _,
    show View.ld vb kvR1 = vb from View.ld_unit_zero zero2 _ _]
  refine View.canon_eq_of_allAt _ _ _ (kv_cover _ _ _) (View.allAt_cons_unit _ _ _ _ _ ?_ (View.allAt_cons_unit _ _ _ _ _ ?_ (View.allAt_nil _ _)))
  · intro x hx
    obtain ⟨z', n', d', rfl⟩ : ∃ (z' : Fin 1) (n' d' : Fin 1024), x = ix3 z' n' d' := ⟨_, _, _, eq_ix3 x⟩
    have h1 : n.val = 0 + n'.val := hx 1
    have h2 : d.val = 1024 + d'.val := hx 2
    obtain rfl : n' = n := Fin.ext (by omega)
    rw [dif_neg (by omega), values_apply]
    rw [show (⟨d.val - 1024, by omega⟩ : Fin 1024) = d' from Fin.ext (by show d.val - 1024 = _; omega)]
  · intro x hx
    obtain ⟨z', n', d', rfl⟩ : ∃ (z' : Fin 1) (n' d' : Fin 1024), x = ix3 z' n' d' := ⟨_, _, _, eq_ix3 x⟩
    have h1 : n.val = 0 + n'.val := hx 1
    have h2 : d.val = 0 + d'.val := hx 2
    obtain rfl : n' = n := Fin.ext (by omega)
    rw [dif_pos (by omega), keys_apply]
    rw [show (⟨d.val, by omega⟩ : Fin 1024) = d' from Fin.ext (by show d.val = _; omega)]

section Blocks

variable (W : Dev nD → Valuation τ sig (Elt Ideal)) (c : Dev nD) (t : Fin cfg1.N)

theorem kvIx0 : ∀ t : Fin cfg1.N, win1_0.index t = ![t.val, 0, 0] := by decide +kernel
theorem kvIx1 : ∀ t : Fin cfg1.N, win1_1.index t = ![0, 0] := by decide +kernel
theorem kvIx2 : ∀ t : Fin cfg1.N, win1_2.index t = ![0, 0] := by decide +kernel
theorem kvIx3 : ∀ t : Fin cfg1.N, win1_3.index t = ![0, 0] := by decide +kernel
theorem kvIx4 : ∀ t : Fin cfg1.N, win1_4.index t = ![0, 0] := by decide +kernel
theorem kvIx5 : ∀ t : Fin cfg1.N, win1_5.index t = ![t.val, 0, 0] := by decide +kernel

theorem kvBlk0 (z : Fin 1) (n e : Fin 1024) :
    kvBlk W c 0 t (ix3 z n e) = W c (Proc.devRef .tc main_arg1) (ix3 (⟨t.val, t.isLt⟩ : Fin 2) n e) := by
  have hz : z.val = 0 := by omega
  blk_simp [kvBlk]
  congr 1
  blk_ext [kvIx0]

theorem kvBlk1 : kvBlk W c 1 t = W c (Proc.devRef .tc main_v3) := by
  funext y
  blk_simp [kvBlk]
  congr 1
  blk_ext [kvIx1]

theorem kvBlk2 : kvBlk W c 2 t = W c (Proc.devRef .tc main_v4) := by
  funext y
  blk_simp [kvBlk]
  congr 1
  blk_ext [kvIx2]

theorem kvBlk3 : kvBlk W c 3 t = W c (Proc.devRef .tc main_v8) := by
  funext y
  blk_simp [kvBlk]
  congr 1
  blk_ext [kvIx3]

theorem kvBlk4 : kvBlk W c 4 t = W c (Proc.devRef .tc main_v9) := by
  funext y
  blk_simp [kvBlk]
  congr 1
  blk_ext [kvIx4]

/-- Where point `t`'s block of the table lies. -/
theorem kvPlace (z : Fin 1) (n : Fin 1024) (d : Fin 2048) :
    ((View.whole main_v12).slice (win1_5.rect t)).emb (ix3 z n d) = (ix3 (⟨t.val, t.isLt⟩ : Fin 2) n d : S2x1024x2048.Idx) := by
  have hz : z.val = 0 := by omega
  blk_ext [kvIx5]

end Blocks

theorem kv_array (W : Dev nD → Valuation τ sig (Elt Ideal)) (c : Dev nD) :
    (kvDat W c).arrAt 5 cfg1.N
      = kvTab (W c (Proc.devRef .tc main_arg1)) (W c (Proc.devRef .tc main_v3)) (W c (Proc.devRef .tc main_v4)) (W c (Proc.devRef .tc main_v8))
          (W c (Proc.devRef .tc main_v9)) := by
  refine (kvDat W c).arrAt_eq_of_covers 5 _ (by decide +kernel) fun t hf y => ?_
  blk_simp
  dsimp only [kvDat]
  obtain ⟨z, n, d, rfl⟩ : ∃ (z : Fin 1) (n : Fin 1024) (d : Fin 2048), y = ix3 z n d := ⟨_, _, _, eq_ix3 y⟩
  refine (kvOut_apply _ _ _ _ _ z n d).trans (Eq.trans ?_ (congrArg _ (kvPlace t z n d).symm))
  rw [kvBlk1, kvBlk2, kvBlk3, kvBlk4]
  simp only [kvBlk0]
  rfl

end Cert.Proof.RV
-- ==== Proof.RV.Round.lean ====
/-
  One round of the routing call at the extended reals: the position it picks and the row it leaves.
-/
module

public import proofs.«01_k».proof.Proof.RI.Route
public import proofs.«01_k».proof.Proof.RV.Top
public import Idealize.ShloMosaic.Lib.Pointwise

@[expose] public section

set_option maxRecDepth 65536

noncomputable section

namespace Cert.Proof.RV

open Idealize.ShloMosaic Cert.KernelIdeal Cert.KernelIdeal.Gen Cert.Proof.RI

theorem toInt_least (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (by rw [decide_eq_true_eq]; exact h), min_eq_right (not_lt.mp h)]

/-- The least of a row of words, where one is among them and none is below it. -/
theorem least_eq {ι : Type} [Fintype ι] (b : BitVec 32) (g : ι → BitVec 32) (i : ι) (hb : (g i).toInt ≤ b.toInt) (h : ∀ j, (g i).toInt ≤ (g j).toInt) :
    Finset.fold IntOp.minsi b g Finset.univ = g i := by
  apply BitVec.eq_of_toInt_eq
  rw [show (Finset.fold IntOp.minsi b g Finset.univ).toInt = Finset.fold min b.toInt (fun j => (g j).toInt) Finset.univ from
    (Finset.fold_hom (op := IntOp.minsi) (op' := min) (m := BitVec.toInt) toInt_least).symm]
  exact le_antisymm ((Finset.fold_min_le _).mpr (.inr ⟨i, Finset.mem_univ _, le_rfl⟩)) ((Finset.le_fold_min _).mpr ⟨hb, fun j _ => h j⟩)

theorem toInt_small {k : ℕ} (h : k ≤ 1024) : (BitVec.ofNat 32 k).toInt = k := by
  rw [BitVec.toInt_ofNat', Int.bmod_def]
  omega

theorem low_word : Ideal.ofBits FTy.f32 4286578688#32 = ⊥ := by simp [Ideal.ofBits, Ideal.ieee]

/-- The greatest of what is left. -/
theorem left_max (f : Fin 1024 → EReal) (r : Fin 1024) : Finset.fold max ⊥ (left f r.val) Finset.univ = f (best f r) :=
  le_antisymm ((Finset.fold_max_le _).mpr ⟨bot_le, fun x _ => left_le f r x⟩)
    ((Finset.le_fold_max _).mpr (.inr ⟨best f r, Finset.mem_univ _, (left_best f r).ge⟩))

theorem pick_eq (x : FVec Ideal S256x1024 .f32) (f : Fin 1024 → EReal) (hf : ∀ n, ⊥ < f n) (p : Fin 256) (r : Fin 1024)
    (hx : ∀ n, x (ix2 p n) = left f r.val n) : k0_pay7 rtIota x (ix2 p 0) = BitVec.ofNat 32 (best f r).val := by
  unfold k0_pay7 rtIota
  pointwise
  simp only [low_word, hx]
  rw [left_max]
  have hval : ∀ n : Fin 1024, (if left f r.val n = f (best f r) then BitVec.ofNat 32 n.val else 1024#32)
      = BitVec.ofNat 32 (if left f r.val n = f (best f r) then n.val else 1024) := fun n => by split <;> rfl
  simp only [hval]
  have hb : (if left f r.val (best f r) = f (best f r) then (best f r).val else 1024) = (best f r).val := if_pos (left_best f r)
  rw [least_eq _ _ (best f r), hb]
  · rw [hb, toInt_small (best f r).isLt.le]
    have := (best f r).isLt
    have e : (2147483647#32 : BitVec 32).toInt = 2147483647 := by decide
    rw [e]
    omega
  · intro n
    rw [hb, toInt_small (best f r).isLt.le]
    have := (best f r).isLt
    split
    · rename_i h
      rw [toInt_small n.isLt.le]
      exact_mod_cast best_le f hf r n h
    · rw [toInt_small le_rfl]
      omega

theorem mask_eq (x : FVec Ideal S256x1024 .f32) (f : Fin 1024 → EReal) (hf : ∀ n, ⊥ < f n) (p : Fin 256) (r : Fin 1024)
    (hx : ∀ n, x (ix2 p n) = left f r.val n) (n : Fin 1024) : k0_pay8 rtIota x (ix2 p n) = left f (r.val + 1) n := by
  have hk := pick_eq x f hf p r hx
  unfold k0_pay8
  pointwise
  rw [hk, hx, left_succ]
  have e : (BitVec.ofNat 32 n.val = BitVec.ofNat 32 (best f r).val) ↔ n = best f r := by
    refine ⟨fun h => Fin.ext ?_, fun h => by rw [h]⟩
    have := congrArg BitVec.toInt h
    rw [toInt_small n.isLt.le, toInt_small (best f r).isLt.le] at this
    exact_mod_cast this
  by_cases h : n = best f r
  · rw [if_pos h, h]
    simp [Scalar.select, IntOp.cmpi]
    rfl
  · rw [if_neg h]
    have : ¬ (BitVec.ofNat 32 n.val = BitVec.ofNat 32 (best f r).val) := fun e' => h (e.mp e')
    have hd : IntOp.cmpi .eq (BitVec.ofNat 32 n.val) (BitVec.ofNat 32 (best f r).val) = 0#1 := by
      show BitVec.ofBool (BitVec.ofNat 32 n.val == BitVec.ofNat 32 (best f r).val) = 0#1
      rw [beq_eq_false_iff_ne.mpr this]
      rfl
    rw [hd]
    rfl

/-- The block after `r` rounds. -/
def after (x : FVec Ideal S256x1024 .f32) (r : ℕ) : FVec Ideal S256x1024 .f32 := (k0_pay8 rtIota)^[r] x

theorem after_eq (x : FVec Ideal S256x1024 .f32) (f : Fin 1024 → EReal) (hf : ∀ n, ⊥ < f n) (p : Fin 256) (hx : ∀ n, x (ix2 p n) = f n) :
    ∀ r : ℕ, r ≤ 1024 → ∀ n, after x r (ix2 p n) = left f r n
  | 0, _, n => by rw [left_zero]; exact hx n
  | r + 1, h, n => by
    unfold after
    rw [Function.iterate_succ_apply']
    exact mask_eq _ f hf p ⟨r, h⟩ (after_eq x f hf p hx r (Nat.le_of_succ_le h)) n

/-- A round more. -/
theorem after_succ (x : FVec Ideal S256x1024 .f32) (r : ℕ) : after x (r + 1) = k0_pay8 rtIota (after x r) := Function.iterate_succ_apply' ..

/-- The position a round picks, of every row, and the row it leaves. -/
abbrev pick (x : FVec Ideal S256x1024 .f32) : IVec S256x1 32 := k0_pay7 rtIota x
abbrev next (x : FVec Ideal S256x1024 .f32) : FVec Ideal S256x1024 .f32 := k0_pay8 rtIota x

/-- The position round `r` picks. -/
def col (x : FVec Ideal S256x1024 .f32) (r : ℕ) : IVec S256x1 32 := pick (after x r)

section Text

variable (tok : Vec Ideal S1x256x1024 .f32) (st : Vec Ideal S1x1024x1024 .f32) (rwt : Vec Ideal S1024x1024 .f32) (rb : Vec Ideal S1x1024 .f32)
variable (x : FVec Ideal S256x1024 .f32)

theorem text1 : k0_pay3 tok rwt rb st = pick (k0_pay2 tok rwt rb st) := rfl
theorem text2 : k0_pay4 tok rwt rb st = next (k0_pay2 tok rwt rb st) := rfl
theorem text3 : k0_pay5 tok rwt rb st = pick (k0_pay4 tok rwt rb st) := rfl
theorem text4 : k0_pay6 tok rwt rb st = next (k0_pay4 tok rwt rb st) := rfl
theorem text5 : k0_pay9 rtIota x = pick (next x) := rfl
theorem text6 : k0_pay10 rtIota x = next (next x) := rfl
theorem text7 : k0_pay11 rtIota x = pick (k0_pay10 rtIota x) := rfl
theorem text8 : k0_pay12 rtIota x = next (k0_pay10 rtIota x) := rfl
theorem text9 : k0_pay13 rtIota x = pick (k0_pay12 rtIota x) := rfl
theorem text10 (b : BitVec 32) (y : FVec Ideal S256x1024 .f32) (c0 c1 c2 c3 c4 : IVec S256x1 32) (hy : k0_pay12 rtIota x = y) :
    k0_pay15 b rtIota c0 c1 c2 c3 c4 y (pick y) (k0_pay14 rtIota x)
      = addi (concatenate S256x8 1 [⟨S256x1, c0⟩, ⟨S256x1, c1⟩, ⟨S256x1, c2⟩, ⟨S256x1, c3⟩, ⟨S256x1, c4⟩, ⟨S256x1, pick y⟩, ⟨S256x1, pick (next y)⟩,
            ⟨S256x1, pick (next (next y))⟩]
          concatenates_S256x1_S256x1_S256x1_S256x1_S256x1_S256x1_S256x1_S256x1_S256x8_d1) (broadcast S256x8 (Scalar.muli b 1024#32)) := by
  subst hy
  rfl

theorem after_zero : after x 0 = x := rfl

/-- The eight columns, in rounds. -/
theorem cols : ([⟨S256x1, pick x⟩, ⟨S256x1, pick (next x)⟩, ⟨S256x1, pick (next (next x))⟩, ⟨S256x1, pick (next (next (next x)))⟩,
      ⟨S256x1, pick (next (next (next (next x))))⟩, ⟨S256x1, pick (next (next (next (next (next x)))))⟩,
      ⟨S256x1, pick (next (next (next (next (next (next x))))))⟩, ⟨S256x1, pick (next (next (next (next (next (next (next x)))))))⟩] :
        List ((s : Shape) × (s.Idx → BitVec 32)))
    = List.ofFn fun j : Fin 8 => ⟨S256x1, col x j.val⟩ := by
  simp only [List.ofFn_succ, List.ofFn_zero, Fin.val_zero, Fin.val_succ, col, after_succ, after_zero]

end Text

theorem concat_congr {xs ys : List ((s : Shape) × (s.Idx → BitVec 32))} (e : xs = ys) (h : Shape.Concatenates (xs.map (·.1)) S256x8 1)
    (h' : Shape.Concatenates (ys.map (·.1)) S256x8 1) (i : S256x8.Idx) : concatenate S256x8 1 xs h i = concatenate S256x8 1 ys h' i := by
  subst e
  rfl

/-- A row of the block: the positions of the row's best eight scores, moved to the batch's rows of the table. -/
theorem rows_apply (b : BitVec 32) (tok : Vec Ideal S1x256x1024 .f32) (st : Vec Ideal S1x1024x1024 .f32) (rwt : Vec Ideal S1024x1024 .f32)
    (rb : Vec Ideal S1x1024 .f32) (f : Fin 1024 → EReal) (hf : ∀ n, ⊥ < f n) (p : Fin 256) (hx : ∀ n, k0_pay2 tok rwt rb st (ix2 p n) = f n)
    (j : Fin 8) :
    rtRows b tok st rwt rb (ix2 p j) = BitVec.ofNat 32 (best f (j.castLE (by decide))).val + b * 1024#32 := by
  unfold rtRows
  rw [text9, text10 _ b _ _ _ _ _ _ rfl, text1, text3, text5, text7, text8, text6, text4, text2]
  have hc := concatenate_ofFn_unit_apply (t := S256x8) (s₁ := S256x1) 1 (fun j : Fin 8 => col (k0_pay2 tok rwt rb st) j.val)
    concatenates_S256x1_S256x1_S256x1_S256x1_S256x1_S256x1_S256x1_S256x1_S256x8_d1 rfl rfl (ix2 p j) j rfl (ix2 p 0)
    (by intro b hb; match b with | ⟨0, _⟩ => rfl | ⟨1, _⟩ => exact absurd rfl hb)
  have hp := pick_eq _ f hf p (j.castLE (by decide)) fun n => after_eq _ f hf p hx j.val (by omega) n
  refine congrArg (· + b * 1024#32) (Eq.trans ?_ (hc.trans hp))
  exact concat_congr (cols _) _ _ _

end Cert.Proof.RV
-- ==== Proof.RV.RtArray.lean ====
/-
  The routing call's two results, each as one function of the arrays the call reads.
-/
module

public import proofs.«01_k».proof.Proof.RV.KvArray
public import proofs.«01_k».proof.Proof.RV.Round

@[expose] public section

set_option maxRecDepth 65536

noncomputable section

namespace Cert.Proof.RV

open Idealize.ShloMosaic Cert.KernelIdeal Cert.KernelIdeal.Gen Cert.Proof.RI
open Idealize.ShloMosaic.Pipeline (Dat arrRef)
open Idealize.ShloMosaic.ValueKit

/-- The score of token `s` against state `n`, the states given with their positions last. -/
def scoreT (tok : S2x2048x1024.Idx → EReal) (rwt : S1024x1024.Idx → EReal) (rb : S1x1024.Idx → EReal) (stT : S2x1024x1024.Idx → EReal)
    (b : Fin 2) (s : Fin 2048) (n : Fin 1024) : EReal :=
  ∑ d : Fin 1024, rowCol tok rwt rb b s d * stT (ix3 b d n)

/-- The rows' array: of token `s`, the table's rows of its eight best states. -/
def rowsArr (sc : Fin 2 → Fin 2048 → Fin 1024 → EReal) (i : S4096x8.Idx) : BitVec 32 :=
  have h : (i 0).val < 4096 := (i 0).isLt
  BitVec.ofNat 32 (best (sc ⟨(i 0).val / 2048, by omega⟩ ⟨(i 0).val % 2048, by omega⟩) ((show Fin 8 from i 1).castLE (by decide))).val
    + BitVec.ofNat 32 ((i 0).val / 2048) * 1024#32

/-- The queries' array. -/
def queryArr (tok : S2x2048x1024.Idx → EReal) (qw : S1024x1024.Idx → EReal) (qb : S1x1024.Idx → EReal) (i : S2x2048x1024.Idx) : EReal :=
  rowCol (M := 2048) tok qw qb (i 0) (i 1) (i 2)

theorem rtQ_apply (tok : Vec Ideal S1x256x1024 .f32) (qw : Vec Ideal S1024x1024 .f32) (qb : Vec Ideal S1x1024 .f32) (z : Fin 1) (p : Fin 256)
    (d : Fin 1024) : rtQ tok qw qb (ix3 z p d) = (∑ e : Fin 1024, tok (ix3 0 p e) * qw (ix2 e d)) + qb (ix2 0 d) := by
  unfold rtQ
  rw [show View.ld tok rtT = tok from View.ld_unit_zero zero3 _ _, show View.ld qw rtW = qw from View.ld_unit_zero zero2 _ _,
    show View.ld qb rtB = qb from View.ld_unit_zero zero2 _ _]
  rw [View.canon_cons_unit_zero zero3]
  exact query_apply tok qw qb z p d

theorem rtIx_apply (b : BitVec 32) (tok : Vec Ideal S1x256x1024 .f32) (st : Vec Ideal S1x1024x1024 .f32) (rwt : Vec Ideal S1024x1024 .f32)
    (rb : Vec Ideal S1x1024 .f32) (f : Fin 1024 → EReal) (hf : ∀ n, ⊥ < f n) (p : Fin 256)
    (hx : ∀ n, ∑ d : Fin 1024, ((∑ e : Fin 1024, tok (ix3 0 p e) * rwt (ix2 e d)) + rb (ix2 0 d)) * st (ix3 0 d n) = f n) (j : Fin 8) :
    rtIx b tok st rwt rb (ix2 p j) = BitVec.ofNat 32 (best f (j.castLE (by decide))).val + b * 1024#32 := by
  unfold rtIx
  rw [show View.ld tok rtT = tok from View.ld_unit_zero zero3 _ _, show View.ld st rtS = st from View.ld_unit_zero zero3 _ _,
    show View.ld rwt rtW = rwt from View.ld_unit_zero zero2 _ _, show View.ld rb rtB = rb from View.ld_unit_zero zero2 _ _]
  rw [View.canon_cons_unit_zero zero2]
  exact rows_apply b tok st rwt rb f hf p (fun n => (score_apply tok rwt rb st p n).trans (hx n)) j

section Blocks

variable (W : Dev nD → Valuation τ sig (Elt Ideal)) (c : Dev nD) (t : Fin cfg0.N)

theorem rtIx0 : ∀ t : Fin cfg0.N, win0_0.index t = ![t.val / 8, t.val % 8, 0] := by decide +kernel
theorem rtIx1 : ∀ t : Fin cfg0.N, win0_1.index t = ![t.val / 8, 0, 0] := by decide +kernel
theorem rtIx2 : ∀ t : Fin cfg0.N, win0_2.index t = ![0, 0] := by decide +kernel
theorem rtIx3 : ∀ t : Fin cfg0.N, win0_3.index t = ![0, 0] := by decide +kernel
theorem rtIx4 : ∀ t : Fin cfg0.N, win0_4.index t = ![0, 0] := by decide +kernel
theorem rtIx5 : ∀ t : Fin cfg0.N, win0_5.index t = ![0, 0] := by decide +kernel
theorem rtIx6 : ∀ t : Fin cfg0.N, win0_6.index t = ![t.val, 0] := by decide +kernel
theorem rtIx7 : ∀ t : Fin cfg0.N, win0_7.index t = ![t.val / 8, t.val % 8, 0] := by decide +kernel
theorem rtBatch : ∀ t : Fin cfg0.N, (grid0.coords t 0).val = t.val / 8 := by decide +kernel
theorem rtCount : cfg0.N = 16 := by decide +kernel

/-- The batch of a point, and the token a row of its block is. -/
def ptB : Fin 2 := ⟨t.val / 8, by have := t.isLt; have := rtCount; omega⟩
def ptS (p : Fin 256) : Fin 2048 := ⟨t.val % 8 * 256 + p.val, by omega⟩

theorem rtBlk0 (z : Fin 1) (p : Fin 256) (e : Fin 1024) :
    rtBlk W c 0 t (ix3 z p e) = W c (Proc.devRef .tc main_arg0) (ix3 (ptB t) (ptS t p) e) := by
  have hz : z.val = 0 := by omega
  blk_simp [rtBlk]
  congr 1
  blk_ext [rtIx0, ptB, ptS]

theorem rtBlk1 (z : Fin 1) (d n : Fin 1024) :
    rtBlk W c 1 t (ix3 z d n) = W c (Proc.devRef .tc main_v0) (ix3 (ptB t) d n) := by
  have hz : z.val = 0 := by omega
  blk_simp [rtBlk]
  congr 1
  blk_ext [rtIx1, ptB]

theorem rtBlk2 : rtBlk W c 2 t = W c (Proc.devRef .tc main_v1) := by
  funext y
  blk_simp [rtBlk]
  congr 1
  blk_ext [rtIx2]

theorem rtBlk3 : rtBlk W c 3 t = W c (Proc.devRef .tc main_v6) := by
  funext y
  blk_simp [rtBlk]
  congr 1
  blk_ext [rtIx3]

theorem rtBlk4 : rtBlk W c 4 t = W c (Proc.devRef .tc main_v2) := by
  funext y
  blk_simp [rtBlk]
  congr 1
  blk_ext [rtIx4]

theorem rtBlk5 : rtBlk W c 5 t = W c (Proc.devRef .tc main_v7) := by
  funext y
  blk_simp [rtBlk]
  congr 1
  blk_ext [rtIx5]

/-- Where point `t`'s blocks of the two results lie. -/
theorem rtPlace6 (p : Fin 256) (j : Fin 8) :
    ((View.whole main_v11_0).slice (win0_6.rect t)).emb (ix2 p j)
      = (ix2 (⟨t.val * 256 + p.val, by have := t.isLt; have := rtCount; omega⟩ : Fin 4096) j : S4096x8.Idx) := by
  blk_ext [rtIx6]

theorem rtPlace7 (z : Fin 1) (p : Fin 256) (d : Fin 1024) :
    ((View.whole main_v11_1).slice (win0_7.rect t)).emb (ix3 z p d) = (ix3 (ptB t) (ptS t p) d : S2x2048x1024.Idx) := by
  have hz : z.val = 0 := by omega
  blk_ext [rtIx7, ptB, ptS]

end Blocks

theorem query_array (W : Dev nD → Valuation τ sig (Elt Ideal)) (c : Dev nD) :
    (rtDat W c).arrAt 7 cfg0.N
      = queryArr (W c (Proc.devRef .tc main_arg0)) (W c (Proc.devRef .tc main_v2)) (W c (Proc.devRef .tc main_v7)) := by
  refine (rtDat W c).arrAt_eq_of_covers 7 _ (by decide +kernel) fun t hf y => ?_
  blk_simp
  dsimp only [rtDat]
  obtain ⟨z, p, d, rfl⟩ : ∃ (z : Fin 1) (p : Fin 256) (d : Fin 1024), y = ix3 z p d := ⟨_, _, _, eq_ix3 y⟩
  refine (rtQ_apply _ _ _ z p d).trans (Eq.trans ?_ (congrArg _ (rtPlace7 t z p d).symm))
  rw [rtBlk4, rtBlk5]
  simp only [rtBlk0]
  rfl

theorem rows_array (W : Dev nD → Valuation τ sig (Elt Ideal)) (c : Dev nD) (sc : Fin 2 → Fin 2048 → Fin 1024 → EReal)
    (hs : ∀ b s n, scoreT (W c (Proc.devRef .tc main_arg0)) (W c (Proc.devRef .tc main_v1)) (W c (Proc.devRef .tc main_v6))
      (W c (Proc.devRef .tc main_v0)) b s n = sc b s n) (hf : ∀ b s n, ⊥ < sc b s n) :
    (rtDat W c).arrAt 6 cfg0.N = rowsArr sc := by
  refine (rtDat W c).arrAt_eq_of_covers 6 _ (by decide +kernel) fun t _ y => ?_
  blk_simp
  dsimp only [rtDat]
  obtain ⟨p, j, rfl⟩ : ∃ (p : Fin 256) (j : Fin 8), y = ix2 p j := ⟨_, _, eq_ix2 y⟩
  refine Eq.trans ?_ (congrArg _ (rtPlace6 t p j).symm)
  refine (rtIx_apply _ _ _ _ _ (sc (ptB t) (ptS t p)) (hf _ _) p (fun n => ?_) j).trans ?_
  · rw [rtBlk2, rtBlk3, ← hs]
    simp only [rtBlk0, rtBlk1]
    rfl
  · rw [rtBatch]
    unfold rowsArr
    have ht := t.isLt
    have hn := rtCount
    have hp := p.isLt
    have e1 : (t.val * 256 + p.val) / 2048 = t.val / 8 := by omega
    have e2 : (t.val * 256 + p.val) % 2048 = t.val % 8 * 256 + p.val := by omega
    show _ = BitVec.ofNat 32 (best (sc ⟨(t.val * 256 + p.val) / 2048, _⟩ ⟨(t.val * 256 + p.val) % 2048, _⟩) _).val
      + BitVec.ofNat 32 ((t.val * 256 + p.val) / 2048) * 1024#32
    simp only [e1, e2]
    rfl

end Cert.Proof.RV
-- ==== Proof.RV.AtArray.lean ====
/-
  The attention call's two results, each as one function of the arrays the call reads.
-/
module

public import proofs.«01_k».proof.Proof.RV.AtPay
public import proofs.«01_k».proof.Proof.RV.RtArray

@[expose] public section

set_option maxRecDepth 65536

noncomputable section

namespace Cert.Proof.RV

open Idealize.ShloMosaic Cert.KernelIdeal Cert.KernelIdeal.Gen Cert.Proof.RI
open Idealize.ShloMosaic.Pipeline (Dat arrRef)
open Idealize.ShloMosaic.ValueKit

/-- The gathered row of token `s`'s choice `k`. -/
def gRow (b : Fin 2) (s : Fin 2048) (k : Fin 8) : Fin 32768 := ⟨(b.val * 2048 + s.val) * 8 + k.val, by omega⟩

variable (Q : S2x2048x1024.Idx → EReal) (KV : S32768x2048.Idx → EReal)

/-- The score of token `s`'s choice `k` at head `h`. -/
def logitA (b : Fin 2) (s : Fin 2048) (h : Fin 16) (k : Fin 8) : EReal :=
  (∑ x : Fin 64, Q (ix3 b s (hCol h x)) * KV (ix2 (gRow b s k) ((hCol h x).castLE (by decide)))) * eighth

/-- Its weight among the token's eight. -/
def weightA (b : Fin 2) (s : Fin 2048) (h : Fin 16) (k : Fin 8) : EReal :=
  Ideal.div (Ideal.exp (logitA Q KV b s h k)) (∑ k' : Fin 8, Ideal.exp (logitA Q KV b s h k'))

/-- The mixed value of token `s` at column `d`. -/
def mixA (b : Fin 2) (s : Fin 2048) (d : Fin 1024) : EReal :=
  ∑ k : Fin 8, weightA Q KV b s (headOf d) k * KV (ix2 (gRow b s k) (⟨1024 + d.val, by omega⟩ : Fin 2048))

/-- The result's array. -/
def outArr (ow : S1024x1024.Idx → EReal) (ob : S1x1024.Idx → EReal) (i : S2x2048x1024.Idx) : EReal :=
  (∑ d : Fin 1024, mixA Q KV (i 0) (i 1) d * ow (ix2 d (show Fin 1024 from i 2))) + ob (ix2 0 (show Fin 1024 from i 2))

/-- The weights' array: a row to a gathered row. -/
def attnArr (i : S2x16384x16.Idx) : EReal :=
  have h : (i 1).val < 16384 := (i 1).isLt
  weightA Q KV (i 0) ⟨(i 1).val / 8, by omega⟩ (i 2) ⟨(i 1).val % 8, by omega⟩

theorem atOut_apply (q : Vec Ideal S1x256x1024 .f32) (kv : Vec Ideal S2048x2048 .f32) (ow : Vec Ideal S1024x1024 .f32) (ob : Vec Ideal S1x1024 .f32)
    (z : Fin 1) (p : Fin 256) (e : Fin 1024) :
    atOut q kv ow ob (ix3 z p e) = (∑ d : Fin 1024, rowMix q kv p d * ow (ix2 d e)) + ob (ix2 0 e) := by
  unfold atOut
  rw [show View.ld q atQ = q from View.ld_unit_zero zero3 _ _, show View.ld kv atKv = kv from View.ld_unit_zero zero2 _ _,
    show View.ld ow atWt = ow from View.ld_unit_zero zero2 _ _, show View.ld ob atB = ob from View.ld_unit_zero zero2 _ _]
  rw [View.canon_cons_unit_zero zero3]
  exact result_apply q kv ow ob z p e

theorem atAttn_apply (q : Vec Ideal S1x256x1024 .f32) (kv : Vec Ideal S2048x2048 .f32) (z : Fin 1) (r : Fin 2048) (h : Fin 16) :
    atAttn q kv (ix3 z r h) = rowWeight q kv r h := by
  unfold atAttn
  rw [show View.ld q atQ = q from View.ld_unit_zero zero3 _ _, show View.ld kv atKv = kv from View.ld_unit_zero zero2 _ _]
  rw [View.canon_cons_unit_zero zero3]
  exact attn_apply q kv z r h

section Blocks

variable (W : Dev nD → Valuation τ sig (Elt Ideal)) (c : Dev nD) (t : Fin cfg3.N)

theorem atIx0 : ∀ t : Fin cfg3.N, win3_0.index t = ![t.val / 8, t.val % 8, 0] := by decide +kernel
theorem atIx1 : ∀ t : Fin cfg3.N, win3_1.index t = ![t.val, 0] := by decide +kernel
theorem atIx2 : ∀ t : Fin cfg3.N, win3_2.index t = ![0, 0] := by decide +kernel
theorem atIx3 : ∀ t : Fin cfg3.N, win3_3.index t = ![0, 0] := by decide +kernel
theorem atIx4 : ∀ t : Fin cfg3.N, win3_4.index t = ![t.val / 8, t.val % 8, 0] := by decide +kernel
theorem atIx5 : ∀ t : Fin cfg3.N, win3_5.index t = ![t.val / 8, t.val % 8, 0] := by decide +kernel
theorem atCount : cfg3.N = 16 := by decide +kernel

theorem at_lt : t.val < 16 := by have := t.isLt; have := atCount; omega

/-- The batch of a point, and the token a row of its block is. -/
def atPB : Fin 2 := ⟨t.val / 8, by have := at_lt t; omega⟩
def atPS (p : Fin 256) : Fin 2048 := ⟨t.val % 8 * 256 + p.val, by omega⟩

theorem atBlk0 (z : Fin 1) (p : Fin 256) (e : Fin 1024) :
    atBlk W c 0 t (ix3 z p e) = W c (Proc.devRef .tc main_v11_1) (ix3 (atPB t) (atPS t p) e) := by
  have hz : z.val = 0 := by omega
  blk_simp [atBlk]
  congr 1
  blk_ext [atIx0, atPB, atPS]

theorem atBlk1 (r d : Fin 2048) :
    atBlk W c 1 t (ix2 r d) = W c (Proc.devRef .tc main_v28) (ix2 (⟨t.val * 2048 + r.val, by have := at_lt t; omega⟩ : Fin 32768) d) := by
  blk_simp [atBlk]
  congr 1
  blk_ext [atIx1]

theorem atBlk2 : atBlk W c 2 t = W c (Proc.devRef .tc main_v5) := by
  funext y
  blk_simp [atBlk]
  congr 1
  blk_ext [atIx2]

theorem atBlk3 : atBlk W c 3 t = W c (Proc.devRef .tc main_v10) := by
  funext y
  blk_simp [atBlk]
  congr 1
  blk_ext [atIx3]

/-- Where point `t`'s blocks of the two results lie. -/
theorem atPlace4 (z : Fin 1) (p : Fin 256) (d : Fin 1024) :
    ((View.whole main_v29_0).slice (win3_4.rect t)).emb (ix3 z p d) = (ix3 (atPB t) (atPS t p) d : S2x2048x1024.Idx) := by
  have hz : z.val = 0 := by omega
  blk_ext [atIx4, atPB, atPS]

theorem atPlace5 (z : Fin 1) (r : Fin 2048) (h : Fin 16) :
    ((View.whole main_v29_1).slice (win3_5.rect t)).emb (ix3 z r h)
      = (ix3 (atPB t) (⟨t.val % 8 * 2048 + r.val, by omega⟩ : Fin 16384) h : S2x16384x16.Idx) := by
  have hz : z.val = 0 := by omega
  blk_ext [atIx5, atPB]

theorem logit_blk (p : Fin 256) (k : Fin 8) (h : Fin 16) (r : Fin 2048) (hr : r.val = p.val * 8 + k.val) :
    rowLogit (atBlk W c 0 t) (atBlk W c 1 t) r h
      = logitA (W c (Proc.devRef .tc main_v11_1)) (W c (Proc.devRef .tc main_v28)) (atPB t) (atPS t p) h k := by
  unfold rowLogit logitA
  congr 1
  refine Finset.sum_congr rfl fun x _ => ?_
  have ht := at_lt t
  rw [atBlk0, atBlk1]
  have e1 : (⟨r.val / 8, by omega⟩ : Fin 256) = p := Fin.ext (by show r.val / 8 = p.val; omega)
  have e2 : (⟨t.val * 2048 + r.val, by omega⟩ : Fin 32768) = gRow (atPB t) (atPS t p) k :=
    Fin.ext (by show t.val * 2048 + r.val = (t.val / 8 * 2048 + (t.val % 8 * 256 + p.val)) * 8 + k.val; omega)
  rw [e1, e2]
  rfl

theorem weight_blk (p : Fin 256) (k : Fin 8) (h : Fin 16) (r : Fin 2048) (hr : r.val = p.val * 8 + k.val) :
    rowWeight (atBlk W c 0 t) (atBlk W c 1 t) r h
      = weightA (W c (Proc.devRef .tc main_v11_1)) (W c (Proc.devRef .tc main_v28)) (atPB t) (atPS t p) h k := by
  refine congrArg₂ (fun x y => Ideal.div (Ideal.exp x) y) (logit_blk W c t p k h r hr) (Finset.sum_congr rfl fun k' _ => congrArg Ideal.exp ?_)
  refine logit_blk W c t p k' h _ ?_
  show r.val / 8 * 8 + k'.val = _
  omega

theorem mix_blk (p : Fin 256) (d : Fin 1024) :
    rowMix (atBlk W c 0 t) (atBlk W c 1 t) p d
      = mixA (W c (Proc.devRef .tc main_v11_1)) (W c (Proc.devRef .tc main_v28)) (atPB t) (atPS t p) d := by
  unfold rowMix mixA
  refine Finset.sum_congr rfl fun k _ => ?_
  have ht := at_lt t
  have e2 : (⟨t.val * 2048 + (p.val * 8 + k.val), by omega⟩ : Fin 32768) = gRow (atPB t) (atPS t p) k :=
    Fin.ext (by show t.val * 2048 + (p.val * 8 + k.val) = (t.val / 8 * 2048 + (t.val % 8 * 256 + p.val)) * 8 + k.val; omega)
  rw [weight_blk W c t p k _ _ rfl, atBlk1, e2]
  rfl

end Blocks

theorem out_array (W : Dev nD → Valuation τ sig (Elt Ideal)) (c : Dev nD) :
    (atDat W c).arrAt 4 cfg3.N
      = outArr (W c (Proc.devRef .tc main_v11_1)) (W c (Proc.devRef .tc main_v28)) (W c (Proc.devRef .tc main_v5)) (W c (Proc.devRef .tc main_v10)) := by
  refine (atDat W c).arrAt_eq_of_covers 4 _ (by decide +kernel) fun t _ y => ?_
  blk_simp
  dsimp only [atDat]
  obtain ⟨z, p, d, rfl⟩ : ∃ (z : Fin 1) (p : Fin 256) (d : Fin 1024), y = ix3 z p d := ⟨_, _, _, eq_ix3 y⟩
  refine (atOut_apply _ _ _ _ z p d).trans (Eq.trans ?_ (congrArg _ (atPlace4 t z p d).symm))
  rw [atBlk2, atBlk3]
  simp only [mix_blk]
  rfl

theorem attn_array (W : Dev nD → Valuation τ sig (Elt Ideal)) (c : Dev nD) :
    (atDat W c).arrAt 5 cfg3.N = attnArr (W c (Proc.devRef .tc main_v11_1)) (W c (Proc.devRef .tc main_v28)) := by
  refine (atDat W c).arrAt_eq_of_covers 5 _ (by decide +kernel) fun t _ y => ?_
  blk_simp
  dsimp only [atDat]
  obtain ⟨z, r, h, rfl⟩ : ∃ (z : Fin 1) (r : Fin 2048) (h : Fin 16), y = ix3 z r h := ⟨_, _, _, eq_ix3 y⟩
  refine (atAttn_apply _ _ z r h).trans (Eq.trans ?_ (congrArg _ (atPlace5 t z r h).symm))
  have ht := at_lt t
  rw [weight_blk W c t ⟨r.val / 8, by omega⟩ ⟨r.val % 8, by omega⟩ h r (by show r.val = r.val / 8 * 8 + r.val % 8; omega)]
  show weightA _ _ _ _ _ _ = weightA _ _ (atPB t) ⟨(t.val % 8 * 2048 + r.val) / 8, _⟩ h ⟨(t.val % 8 * 2048 + r.val) % 8, _⟩
  congr 1
  · exact Fin.ext (by show t.val % 8 * 256 + r.val / 8 = (t.val % 8 * 2048 + r.val) / 8; omega)
  · exact Fin.ext (by show r.val % 8 = (t.val % 8 * 2048 + r.val) % 8; omega)

end Cert.Proof.RV
-- ==== Proof.RV.Gather.lean ====
/-
  The rows the SparseCore call leaves, as the attention call reads them: gathered row `n` is the table's row that entry `n` of the
  routing call's choices names.
-/
module

public import proofs.«01_k».proof.Proof.RI.Main

@[expose] public section

set_option maxRecDepth 65536

noncomputable section

namespace Cert.Proof.RV

open Idealize.ShloMosaic Cert.KernelIdeal Cert.KernelIdeal.Gen Cert.Proof.RI

theorem clamp_word : ∀ x : Fin 2048, IntOp.minsi (IntOp.maxsi (BitVec.ofNat 32 x.val) 0#32) 2047#32 = BitVec.ofNat 32 x.val := by
  decide +kernel

theorem piece_word (x k : ℕ) (hx : x < 2048) (hk : k < 8) :
    (IntOp.addi (IntOp.muli (IntOp.minsi (IntOp.maxsi (BitVec.ofNat 32 x) 0#32) 2047#32) 8#32) (BitVec.ofNat 32 k)).toNat = x * 8 + k := by
  have h := clamp_word ⟨x, hx⟩
  dsimp only at h
  rw [h]
  show (BitVec.ofNat 32 x * 8#32 + BitVec.ofNat 32 k).toNat = _
  rw [BitVec.toNat_add, BitVec.toNat_mul, BitVec.toNat_ofNat, BitVec.toNat_ofNat, BitVec.toNat_ofNat]
  omega

theorem rowAt_ix (r : Fin 16384) (n : Fin 262144) (p : Fin 2) (q : Fin 128) : rowAt r (ix3 n p q) = ix3 r p q := by
  funext a
  match a with
  | ⟨0, _⟩ => rfl
  | ⟨1, _⟩ => rfl
  | ⟨2, _⟩ => rfl

theorem listIx_ix (n : Fin 262144) : listIx n = ix1 n := by
  funext a
  match a with
  | ⟨0, _⟩ => rfl

theorem gath_ix (TB : S16384x2x128.Idx → EReal) (IX : IVec S262144 32) (n : Fin 262144) (p : Fin 2) (q : Fin 128) :
    gath (F := Ideal) TB IX (ix3 n p q) = TB (ix3 (Fin.ofNat 16384 (IX (listIx n)).toNat) p q) :=
  congrArg TB (rowAt_ix _ n p q)

/-- The table's piece that entry `n` of the list names. -/
theorem named_piece (x : IVec S4096x8 32) (n : Fin 262144) (v : ℕ) (hv : v < 2048)
    (hx : x (ix2 (n0 := 4096) (n1 := 8) ⟨n.val / 8 / 8, by omega⟩ ⟨n.val / 8 % 8, by omega⟩) = BitVec.ofNat 32 v) :
    Fin.ofNat 16384 (pieceList x (listIx n)).toNat = ⟨v * 8 + n.val % 8, by omega⟩ := by
  rw [listIx_ix, pieceList_apply, hx, piece_word v _ hv (Nat.mod_lt _ (by norm_num))]
  exact Fin.ext (Nat.mod_eq_of_lt (by omega))

theorem table_apply (T : S2x1024x2048.Idx → EReal) (r : Fin 16384) (p : Fin 2) (q : Fin 128) :
    shapeCast S16384x2x128 T shapeCasts_S2x1024x2048_S16384x2x128 (ix3 r p q)
      = T (ix3 (⟨r.val / 8192, by omega⟩ : Fin 2) (⟨r.val / 8 % 1024, by omega⟩ : Fin 1024) (⟨r.val % 8 * 256 + p.val * 128 + q.val, by omega⟩ : Fin 2048)) := by
  pointwise []

theorem gathered_apply (T : S2x1024x2048.Idx → EReal) (x : IVec S4096x8 32) (n : Fin 32768) (d : Fin 2048) (b : Fin 2) (v : Fin 1024)
    (hx : x (ix2 (n0 := 4096) (n1 := 8) ⟨n.val / 8, by omega⟩ ⟨n.val % 8, by omega⟩) = BitVec.ofNat 32 (v.val + b.val * 1024)) :
    shapeCast S32768x2048 (gath (F := Ideal) (shapeCast S16384x2x128 T shapeCasts_S2x1024x2048_S16384x2x128) (pieceList x))
      shapeCasts_S262144x2x128_S32768x2048 (ix2 n d) = T (ix3 b v d) := by
  pointwise []
  rw [gath_ix, named_piece x _ (v.val + b.val * 1024) (by omega) ?_, table_apply]
  · congr 1
    funext a
    match a with
    | ⟨0, _⟩ => exact Fin.ext (by
        show ((v.val + b.val * 1024) * 8 + (n.val * 8 + d.val / 256) % 8) / 8192 = b.val
        omega)
    | ⟨1, _⟩ => exact Fin.ext (by
        show ((v.val + b.val * 1024) * 8 + (n.val * 8 + d.val / 256) % 8) / 8 % 1024 = v.val
        omega)
    | ⟨2, _⟩ => exact Fin.ext (by
        show ((v.val + b.val * 1024) * 8 + (n.val * 8 + d.val / 256) % 8) % 8 * 256 + d.val / 128 % 2 * 128 + d.val % 128 = d.val
        omega)
  · rw [← hx]
    congr 1
    funext a
    match a with
    | ⟨0, _⟩ => exact Fin.ext (by show (n.val * 8 + d.val / 256) / 8 / 8 = n.val / 8; omega)
    | ⟨1, _⟩ => exact Fin.ext (by show (n.val * 8 + d.val / 256) / 8 % 8 = n.val % 8; omega)

end Cert.Proof.RV
-- ==== Proof.RV.Kernel.lean ====
/-
  The two results of the whole program as the functions of its arguments: the calls' arrays put together through the host lines
  between them.
-/
module

public import proofs.«01_k».proof.Proof.RI.Args
public import proofs.«01_k».proof.Proof.RV.AtArray
public import proofs.«01_k».proof.Proof.RV.Gather

@[expose] public section

set_option maxRecDepth 65536

noncomputable section

namespace Cert.Proof.RV

open Idealize.ShloMosaic Cert.KernelIdeal Cert.KernelIdeal.Gen Cert.Proof.RI
open Idealize.ShloMosaic.StableHlo (after)
open Idealize.ShloMosaic.Pipeline (arrRef afterRegion)

variable (m : (ℓ : Loc nD τ sig) → Buf (Elt Ideal) ℓ) (d : Dev nD)

/-- The program's arguments, entry by entry. -/
def kIns : Ins where
  tok b s e := (Wm m d (Proc.devRef .tc main_arg0) : S2x2048x1024.Idx → EReal) (ix3 b s e)
  st b n e := (Wm m d (Proc.devRef .tc main_arg1) : S2x1024x1024.Idx → EReal) (ix3 b n e)
  rw_ i e := (Wm m d (Proc.devRef .tc main_arg2) : S1024x1024.Idx → EReal) (ix2 i e)
  rb i := (Wm m d (Proc.devRef .tc main_arg3) : S1024.Idx → EReal) (ix1 i)
  qw i e := (Wm m d (Proc.devRef .tc main_arg4) : S1024x1024.Idx → EReal) (ix2 i e)
  qb i := (Wm m d (Proc.devRef .tc main_arg5) : S1024.Idx → EReal) (ix1 i)
  kw i e := (Wm m d (Proc.devRef .tc main_arg6) : S1024x1024.Idx → EReal) (ix2 i e)
  kb i := (Wm m d (Proc.devRef .tc main_arg7) : S1024.Idx → EReal) (ix1 i)
  vw i e := (Wm m d (Proc.devRef .tc main_arg8) : S1024x1024.Idx → EReal) (ix2 i e)
  vb i := (Wm m d (Proc.devRef .tc main_arg9) : S1024.Idx → EReal) (ix1 i)
  ow i e := (Wm m d (Proc.devRef .tc main_arg10) : S1024x1024.Idx → EReal) (ix2 i e)
  ob i := (Wm m d (Proc.devRef .tc main_arg11) : S1024.Idx → EReal) (ix1 i)

/-! ## The arrays the first lines make -/

/-- A matrix with its axes changed over. -/
def flip (x : S1024x1024.Idx → EReal) : S1024x1024.Idx → EReal := transpose S1024x1024 [1, 0] x transposes_S1024x1024_S1024x1024_1_0
/-- The states with positions last. -/
def flipS (x : S2x1024x1024.Idx → EReal) : S2x1024x1024.Idx → EReal := transpose S2x1024x1024 [0, 2, 1] x transposes_S2x1024x1024_S2x1024x1024_0_2_1
/-- A list as a row. -/
def row (x : S1024.Idx → EReal) : S1x1024.Idx → EReal := shapeCast S1x1024 x shapeCasts_S1024_S1x1024

theorem flip_apply (x : S1024x1024.Idx → EReal) (i j : Fin 1024) : flip x (ix2 i j) = x (ix2 j i) := by
  unfold flip
  pointwise []
theorem flipS_apply (x : S2x1024x1024.Idx → EReal) (b : Fin 2) (i j : Fin 1024) : flipS x (ix3 b i j) = x (ix3 b j i) := by
  unfold flipS
  pointwise []
theorem row_apply (x : S1024.Idx → EReal) (z : Fin 1) (i : Fin 1024) : row x (ix2 z i) = x (ix1 i) := by
  unfold row
  pointwise []

theorem first_lines :
    W0 m d (Proc.devRef .tc main_v0) = flipS (Wm m d (Proc.devRef .tc main_arg1))
    ∧ W0 m d (Proc.devRef .tc main_v1) = flip (Wm m d (Proc.devRef .tc main_arg2))
    ∧ W0 m d (Proc.devRef .tc main_v2) = flip (Wm m d (Proc.devRef .tc main_arg4))
    ∧ W0 m d (Proc.devRef .tc main_v3) = flip (Wm m d (Proc.devRef .tc main_arg6))
    ∧ W0 m d (Proc.devRef .tc main_v4) = flip (Wm m d (Proc.devRef .tc main_arg8))
    ∧ W0 m d (Proc.devRef .tc main_v5) = flip (Wm m d (Proc.devRef .tc main_arg10))
    ∧ W0 m d (Proc.devRef .tc main_v6) = row (Wm m d (Proc.devRef .tc main_arg3))
    ∧ W0 m d (Proc.devRef .tc main_v7) = row (Wm m d (Proc.devRef .tc main_arg5))
    ∧ W0 m d (Proc.devRef .tc main_v8) = row (Wm m d (Proc.devRef .tc main_arg7))
    ∧ W0 m d (Proc.devRef .tc main_v9) = row (Wm m d (Proc.devRef .tc main_arg9))
    ∧ W0 m d (Proc.devRef .tc main_v10) = row (Wm m d (Proc.devRef .tc main_arg11)) := by
  unfold W0 ops0
  refine ⟨?_, ?_, ?_, ?_, ?_, ?_, ?_, ?_, ?_, ?_, ?_⟩ <;> after_results_simp <;> rfl

/-- A projection's row, of the arrays as the calls read them. -/
theorem rowCol_lin {M : ℕ} (x : (⟨3, ![2, M, 1024]⟩ : Shape).Idx → EReal) (w : S1024x1024.Idx → EReal) (c : S1024.Idx → EReal) (b : Fin 2)
    (n : Fin M) (i : Fin 1024) :
    rowCol x (flip w) (row c) b n i = lin (fun e => x (ix3 b n e)) (fun i e => w (ix2 i e)) (fun i => c (ix1 i)) i := by
  unfold rowCol lin
  simp only [flip_apply, row_apply]

/-! ## The calls' arrays -/

theorem W1_rows (hf : ∀ b s n, ⊥ < (kIns m d).score b s n) :
    W1 m d (Proc.devRef .tc main_v11_0) = rowsArr (kIns m d).score := by
  obtain ⟨h0, h1, -, -, -, -, h6, -⟩ := first_lines m d
  unfold W1
  refine (Pipeline.afterRegion_arr (rtDat (W0 m) d) (W0 m d) winFacts0.arr_inj 6).trans (rows_array (W0 m) d _ (fun b s n => ?_) hf)
  rw [h0, h1, h6]
  unfold scoreT Ins.score
  refine Finset.sum_congr rfl fun e _ => ?_
  rw [rowCol_lin, flipS_apply, W0_off m d main_arg0 (by decide)]
  rfl

theorem W1_queries : W1 m d (Proc.devRef .tc main_v11_1)
    = queryArr (Wm m d (Proc.devRef .tc main_arg0)) (flip (Wm m d (Proc.devRef .tc main_arg4))) (row (Wm m d (Proc.devRef .tc main_arg5))) := by
  obtain ⟨-, -, h2, -, -, -, -, h7, -⟩ := first_lines m d
  unfold W1
  refine (Pipeline.afterRegion_arr (rtDat (W0 m) d) (W0 m d) winFacts0.arr_inj 7).trans ((query_array (W0 m) d).trans ?_)
  rw [h2, h7, W0_off m d main_arg0 (by decide)]

theorem W2_table : W2 m d (Proc.devRef .tc main_v12)
    = kvTab (Wm m d (Proc.devRef .tc main_arg1)) (flip (Wm m d (Proc.devRef .tc main_arg6))) (flip (Wm m d (Proc.devRef .tc main_arg8)))
        (row (Wm m d (Proc.devRef .tc main_arg7))) (row (Wm m d (Proc.devRef .tc main_arg9))) := by
  obtain ⟨-, -, -, h3, h4, -, -, -, h8, h9, -⟩ := first_lines m d
  unfold W2
  refine (Pipeline.afterRegion_arr (kvDat (W1 m) d) (W1 m d) winFacts1.arr_inj 5).trans ((kv_array (W1 m) d).trans ?_)
  rw [W1_off m d main_arg1 (by decide), W1_off m d main_v3 (by decide), W1_off m d main_v4 (by decide), W1_off m d main_v8 (by decide),
    W1_off m d main_v9 (by decide), h3, h4, h8, h9, W0_off m d main_arg1 (by decide)]

/-- A buffer the lines and calls between the second call and the last leave alone. -/
theorem W5_kept (r : Ref sig .tc) (h1 : r ∉ wrt1) (h2 : r ∉ wrt2) (h : r ≠ main_v27) : W5 m d (Proc.devRef .tc r) = W2 m d (Proc.devRef .tc r) :=
  (W5_off m d r h2).trans ((W4_off m d _ fun e => h (Proc.devRef_injective .tc e)).trans (W3_off m d r h1))

theorem W5_gathered : W5 m d (Proc.devRef .tc main_v28)
    = shapeCast S32768x2048 (gath (F := Ideal) (shapeCast S16384x2x128 (W2 m d (Proc.devRef .tc main_v12)) shapeCasts_S2x1024x2048_S16384x2x128)
        (pieceList (W2 m d (Proc.devRef .tc main_v11_0)))) shapeCasts_S262144x2x128_S32768x2048 := by
  have h26 : W3 m d (Proc.devRef .tc main_v26) = shapeCast S16384x2x128 (W2 m d (Proc.devRef .tc main_v12)) shapeCasts_S2x1024x2048_S16384x2x128 := by
    unfold W3 ops1
    after_results_simp
    rfl
  have h28 : W5 m d (Proc.devRef .tc main_v28) = shapeCast S32768x2048 (W4 m d (Proc.devRef .tc main_v27)) shapeCasts_S262144x2x128_S32768x2048 := by
    unfold W5 ops2
    after_results_simp
    rfl
  rw [h28, W4_v27, IXv_pieceList]
  unfold TBv
  rw [h26]

/-- The gathered row of token `s`'s choice `k`: the keys and values of the state chosen. -/
theorem gathered_row (hf : ∀ b s n, ⊥ < (kIns m d).score b s n) (b : Fin 2) (s : Fin 2048) (k : Fin 8) (e : Fin 2048) :
    W5 m d (Proc.devRef .tc main_v28) (ix2 (gRow b s k) e)
      = kvTab (Wm m d (Proc.devRef .tc main_arg1)) (flip (Wm m d (Proc.devRef .tc main_arg6))) (flip (Wm m d (Proc.devRef .tc main_arg8)))
        (row (Wm m d (Proc.devRef .tc main_arg7))) (row (Wm m d (Proc.devRef .tc main_arg9))) (ix3 b ((kIns m d).sel b s k) e) := by
  rw [W5_gathered, W2_table, W2_off m d main_v11_0 (by decide), W1_rows m d hf]
  refine gathered_apply _ _ _ _ _ _ ?_
  have e0 : ((gRow b s k).val / 8) = b.val * 2048 + s.val := by show ((b.val * 2048 + s.val) * 8 + k.val) / 8 = _; omega
  have e1 : (gRow b s k).val % 8 = k.val := by show ((b.val * 2048 + s.val) * 8 + k.val) % 8 = _; omega
  have e2 : (b.val * 2048 + s.val) / 2048 = b.val := by omega
  have e3 : (b.val * 2048 + s.val) % 2048 = s.val := by omega
  simp only [e0, e1]
  show BitVec.ofNat 32 (best ((kIns m d).score ⟨(b.val * 2048 + s.val) / 2048, _⟩ ⟨(b.val * 2048 + s.val) % 2048, _⟩) _).val
    + BitVec.ofNat 32 ((b.val * 2048 + s.val) / 2048) * 1024#32 = _
  simp only [e2, e3]
  rw [BitVec.ofNat_add, BitVec.ofNat_mul]
  rfl

theorem key_row (hf : ∀ b s n, ⊥ < (kIns m d).score b s n) (b : Fin 2) (s : Fin 2048) (k : Fin 8) (e : Fin 1024) :
    W5 m d (Proc.devRef .tc main_v28) (ix2 (gRow b s k) (e.castLE (by decide)))
      = lin ((kIns m d).st b ((kIns m d).sel b s k)) (kIns m d).kw (kIns m d).kb e := by
  rw [gathered_row m d hf]
  exact (dif_pos (show e.val < 1024 from e.isLt)).trans (rowCol_lin _ _ _ _ _ _)

theorem value_row (hf : ∀ b s n, ⊥ < (kIns m d).score b s n) (b : Fin 2) (s : Fin 2048) (k : Fin 8) (e : Fin 1024) :
    W5 m d (Proc.devRef .tc main_v28) (ix2 (gRow b s k) (⟨1024 + e.val, by omega⟩ : Fin 2048))
      = lin ((kIns m d).st b ((kIns m d).sel b s k)) (kIns m d).vw (kIns m d).vb e := by
  rw [gathered_row m d hf]
  refine (dif_neg (show ¬ 1024 + e.val < 1024 by omega)).trans ((rowCol_lin _ _ _ _ _ _).trans ?_)
  exact congrArg (lin _ _ _) (Fin.ext (show 1024 + e.val - 1024 = e.val by omega))

theorem query_row (b : Fin 2) (s : Fin 2048) (e : Fin 1024) :
    W5 m d (Proc.devRef .tc main_v11_1) (ix3 b s e) = lin ((kIns m d).tok b s) (kIns m d).qw (kIns m d).qb e := by
  rw [W5_kept m d main_v11_1 (by decide) (by decide) (by decide), W2_off m d main_v11_1 (by decide), W1_queries]
  exact rowCol_lin _ _ _ _ _ _

/-! ## The results -/

theorem logit_spec (hf : ∀ b s n, ⊥ < (kIns m d).score b s n) (b : Fin 2) (s : Fin 2048) (h : Fin 16) (k : Fin 8) :
    logitA (W5 m d (Proc.devRef .tc main_v11_1)) (W5 m d (Proc.devRef .tc main_v28)) b s h k = (kIns m d).logit b s h k := by
  unfold logitA Ins.logit
  refine congrArg (· * eighth) (Finset.sum_congr rfl fun x _ => ?_)
  rw [key_row m d hf, query_row]

theorem weight_spec (hf : ∀ b s n, ⊥ < (kIns m d).score b s n) (b : Fin 2) (s : Fin 2048) (h : Fin 16) (k : Fin 8) :
    weightA (W5 m d (Proc.devRef .tc main_v11_1)) (W5 m d (Proc.devRef .tc main_v28)) b s h k = (kIns m d).weight b s h k := by
  unfold weightA Ins.weight
  simp only [logit_spec m d hf]

theorem mix_spec (hf : ∀ b s n, ⊥ < (kIns m d).score b s n) (b : Fin 2) (s : Fin 2048) (e : Fin 1024) :
    mixA (W5 m d (Proc.devRef .tc main_v11_1)) (W5 m d (Proc.devRef .tc main_v28)) b s e = (kIns m d).mix b s e := by
  unfold mixA Ins.mix
  simp only [weight_spec m d hf, value_row m d hf]

/-- The first result. -/
theorem out_spec (hf : ∀ b s n, ⊥ < (kIns m d).score b s n) (b : Fin 2) (s : Fin 2048) (e : Fin 1024) :
    W7 m d (Proc.devRef .tc main_v29_0) (ix3 b s e) = (kIns m d).out b s e := by
  obtain ⟨-, -, -, -, -, h5, -, -, -, -, h10⟩ := first_lines m d
  rw [W7_off m d main_v29_0 (by decide)]
  unfold W6
  rw [show afterRegion (atDat (W5 m) d) (W5 m d) (Proc.devRef .tc main_v29_0) = _ from
    (Pipeline.afterRegion_arr (atDat (W5 m) d) (W5 m d) winFacts3.arr_inj 4).trans (out_array (W5 m) d)]
  rw [W5_kept m d main_v5 (by decide) (by decide) (by decide), W2_off m d main_v5 (by decide), W1_off m d main_v5 (by decide), h5,
    W5_kept m d main_v10 (by decide) (by decide) (by decide), W2_off m d main_v10 (by decide), W1_off m d main_v10 (by decide), h10]
  show (∑ i : Fin 1024, mixA _ _ b s i * flip _ (ix2 i e)) + row _ (ix2 0 e) = _
  simp only [mix_spec m d hf, flip_apply, row_apply]
  rfl

/-- The second result. -/
theorem attn_spec (hf : ∀ b s n, ⊥ < (kIns m d).score b s n) (b : Fin 2) (h : Fin 16) (s : Fin 2048) (k : Fin 8) :
    W7 m d (Proc.devRef .tc main_v31) (ix4 b h s k) = (kIns m d).weight b s h k := by
  have h31 : W7 m d (Proc.devRef .tc main_v31) = transpose S2x16x2048x8 [0, 3, 1, 2]
      (shapeCast S2x2048x8x16 (W6 m d (Proc.devRef .tc main_v29_1)) shapeCasts_S2x16384x16_S2x2048x8x16)
      transposes_S2x2048x8x16_S2x16x2048x8_0_3_1_2 := by
    unfold W7 ops3
    after_results_simp
    rfl
  have h29 : W6 m d (Proc.devRef .tc main_v29_1) = attnArr (W5 m d (Proc.devRef .tc main_v11_1)) (W5 m d (Proc.devRef .tc main_v28)) :=
    (Pipeline.afterRegion_arr (atDat (W5 m) d) (W5 m d) winFacts3.arr_inj 5).trans (attn_array (W5 m) d)
  rw [h31, h29, ← weight_spec m d hf]
  pointwise []
  have e1 : (⟨(s.val * 8 + k.val) / 8, by omega⟩ : Fin 2048) = s := Fin.ext (by show (s.val * 8 + k.val) / 8 = _; omega)
  have e2 : (⟨(s.val * 8 + k.val) % 8, by omega⟩ : Fin 8) = k := Fin.ext (by show (s.val * 8 + k.val) % 8 = _; omega)
  show weightA _ _ b ⟨(s.val * 8 + k.val) / 8, _⟩ h ⟨(s.val * 8 + k.val) % 8, _⟩ = _
  rw [e1, e2]

end Cert.Proof.RV
-- ==== Proof.RV.RefStages.lean ====
/-
  The reference's program in stages: its two results as compositions of a few functions of arrays, each read at an element.
-/
module

public import proofs.«01_k».proof.Proof.Gen.ReferenceIdeal.Run
public import proofs.«01_k».proof.Proof.RV.Spec

@[expose] public section

set_option maxRecDepth 65536

noncomputable section

namespace Cert.Proof.RV.Ref

open Idealize.ShloMosaic Cert.ReferenceIdeal Cert.ReferenceIdeal.Gen Cert.ReferenceIdeal.Value Idealize.ShloMosaic.TcCoe

/-- A projection of the tokens. -/
def lin3 (x : FVec Ideal S2x2048x1024 .f32) (w : FVec Ideal S1024x1024 .f32) (c : FVec Ideal S1024 .f32) : FVec Ideal S2x2048x1024 .f32 :=
  addf (Host.dotGeneral dot_S2x2048x1024_S1024x1024_S2x2048x1024_2_0_01_1_n_n none x (transpose S1024x1024 [1, 0] w transposes_S1024x1024_S1024x1024_1_0))
    (broadcastInDim S2x2048x1024 ![0, 1, 2] bcast_S1x1x1024_S2x2048x1024_0_1_2 (broadcastInDim S1x1x1024 ![2] bcast_S1024_S1x1x1024_2 c))

/-- A projection of the chosen states. -/
def lin4 (x : FVec Ideal S2x2048x8x1024 .f32) (w : FVec Ideal S1024x1024 .f32) (c : FVec Ideal S1024 .f32) : FVec Ideal S2x2048x8x1024 .f32 :=
  addf (Host.dotGeneral dot_S2x2048x8x1024_S1024x1024_S2x2048x8x1024_3_0_012_1_n_n none x (transpose S1024x1024 [1, 0] w transposes_S1024x1024_S1024x1024_1_0))
    (broadcastInDim S2x2048x8x1024 ![0, 1, 2, 3] bcast_S1x1x1x1024_S2x2048x8x1024_0_1_2_3 (broadcastInDim S1x1x1x1024 ![3] bcast_S1024_S1x1x1x1024_3 c))

/-- The scores. -/
def scores (t : FVec Ideal S2x2048x1024 .f32) (st : FVec Ideal S2x1024x1024 .f32) : FVec Ideal S2x2048x1024 .f32 :=
  Host.dotGeneral dot_S2x2048x1024_S2x1024x1024_S2x2048x1024_2_1_1_2_0_0 none t (transpose S2x1024x1024 [0, 2, 1] st transposes_S2x1024x1024_S2x1024x1024_0_2_1)

/-- The positions of the eight greatest. -/
def tops (x : FVec Ideal S2x2048x1024 .f32) : IVec S2x2048x8 32 :=
  (Host.topK S2x2048x8 2 (FloatOps.cmpfTotal .gt) x sliceFits_S2x2048x1024_S2x2048x8).2

/-- The states at the positions. -/
def picked (st : FVec Ideal S2x1024x1024 .f32) (ix : IVec S2x2048x8 32) : FVec Ideal S2x2048x8x1024 .f32 :=
  Host.gather gather_S2x1024x1024_S2x2048x8x1_S2x2048x8x1024_3_1_0_0_1_3_111024 st
    (broadcastInDim S2x2048x8x1 ![0, 1, 2] bcast_S2x2048x8_S2x2048x8x1_0_1_2
      (select (cmpi .slt ix (broadcastInDim S2x2048x8 ![] bcast_S_S2x2048x8 (constantI S_ 32 0#32)))
        (addi ix (broadcastInDim S2x2048x8 ![] bcast_S_S2x2048x8 (constantI S_ 32 1024#32))) ix))

/-- Queries by head. -/
def heads3 (x : FVec Ideal S2x2048x1024 .f32) : FVec Ideal S2x16x2048x64 .f32 :=
  transpose S2x16x2048x64 [0, 2, 1, 3] (shapeCast S2x2048x16x64 x shapeCasts_S2x2048x1024_S2x2048x16x64) transposes_S2x2048x16x64_S2x16x2048x64_0_2_1_3

/-- Keys or values by head. -/
def heads4 (x : FVec Ideal S2x2048x8x1024 .f32) : FVec Ideal S2x16x2048x8x64 .f32 :=
  transpose S2x16x2048x8x64 [0, 3, 1, 2, 4] (shapeCast S2x2048x8x16x64 x shapeCasts_S2x2048x8x1024_S2x2048x8x16x64)
    transposes_S2x2048x8x16x64_S2x16x2048x8x64_0_3_1_2_4

/-- The scaled products of queries and keys. -/
def logits (q : FVec Ideal S2x2048x1024 .f32) (k : FVec Ideal S2x2048x8x1024 .f32) : FVec Ideal S2x16x2048x8 .f32 :=
  mulf (Host.dotGeneral dot_S2x16x2048x64_S2x16x2048x8x64_S2x16x2048x8_3_4_n_3_012_012 none (heads3 q) (heads4 k))
    (broadcastInDim S2x16x2048x8 ![] bcast_S_S2x16x2048x8 (constant S_ .f32 0x3E000000#32))

/-- A number per token and head, along the eight choices. -/
def along (x : FVec Ideal S2x16x2048 .f32) : FVec Ideal S2x16x2048x8 .f32 :=
  broadcastInDim S2x16x2048x8 ![0, 1, 2, 3] bcast_S2x16x2048x1_S2x16x2048x8_0_1_2_3
    (broadcastInDim S2x16x2048x1 ![0, 1, 2] bcast_S2x16x2048_S2x16x2048x1_0_1_2 x)

/-- The exponentials, the greatest of the eight taken off. -/
def exps (l : FVec Ideal S2x16x2048x8 .f32) : FVec Ideal S2x16x2048x8 .f32 :=
  Host.exp (subf l (along (maximumf (broadcastInDim S2x16x2048 ![] bcast_S_S2x16x2048 (constant S_ .f32 0xFF800000#32))
    (Host.reduce FloatOps.maximumf l (constant S_ .f32 0xFF800000#32) reducesTo_S2x16x2048x8_S2x16x2048_d3 h_S_))))

/-- The weights. -/
def soft (l : FVec Ideal S2x16x2048x8 .f32) : FVec Ideal S2x16x2048x8 .f32 :=
  Host.divf (exps l) (along (Host.reduceAdd (exps l) (constant S_ .f32 0x00000000#32) reducesTo_S2x16x2048x8_S2x16x2048_d3 h_S_))

/-- The values mixed. -/
def mixed (w : FVec Ideal S2x16x2048x8 .f32) (v : FVec Ideal S2x2048x8x1024 .f32) : FVec Ideal S2x2048x1024 .f32 :=
  shapeCast S2x2048x1024 (transpose S2x2048x16x64 [0, 2, 1, 3]
    (Host.dotGeneral dot_S2x16x2048x8_S2x16x2048x8x64_S2x16x2048x64_3_3_n_4_012_012 none w (heads4 v)) transposes_S2x16x2048x64_S2x2048x16x64_0_2_1_3)
    shapeCasts_S2x2048x16x64_S2x2048x1024

section

variable (m : (ℓ : Loc nD τ sig) → Buf (Elt Ideal) ℓ) (c : Dev nD)

/-- The chosen states. -/
def chosen : FVec Ideal S2x2048x8x1024 .f32 :=
  picked (m ((c.tc : Thread nD τ).loc main_arg1))
    (tops (scores (lin3 (m ((c.tc : Thread nD τ).loc main_arg0)) (m ((c.tc : Thread nD τ).loc main_arg2)) (m ((c.tc : Thread nD τ).loc main_arg3)))
      (m ((c.tc : Thread nD τ).loc main_arg1))))

/-- The second result, staged. -/
def attnR : FVec Ideal S2x16x2048x8 .f32 :=
  soft (logits (lin3 (m ((c.tc : Thread nD τ).loc main_arg0)) (m ((c.tc : Thread nD τ).loc main_arg4)) (m ((c.tc : Thread nD τ).loc main_arg5)))
    (lin4 (chosen m c) (m ((c.tc : Thread nD τ).loc main_arg6)) (m ((c.tc : Thread nD τ).loc main_arg7))))

/-- The first result, staged. -/
def outR : FVec Ideal S2x2048x1024 .f32 :=
  lin3 (mixed (attnR m c) (lin4 (chosen m c) (m ((c.tc : Thread nD τ).loc main_arg8)) (m ((c.tc : Thread nD τ).loc main_arg9))))
    (m ((c.tc : Thread nD τ).loc main_arg10)) (m ((c.tc : Thread nD τ).loc main_arg11))

theorem res48 : res_main_v48 (F := Ideal) m c = attnR m c := by
  unfold res_main_v48
  rfl

theorem res56 : res_main_v56 (F := Ideal) m c = outR m c := by
  unfold res_main_v56
  rfl

end

end Cert.Proof.RV.Ref
-- ==== Proof.RV.RefRead.lean ====
/-
  The reference's stages, each read at an element.
-/
module

public import proofs.«01_k».proof.Proof.RV.RefStages

@[expose] public section

set_option maxRecDepth 65536

noncomputable section

namespace Cert.Proof.RV.Ref

open Idealize.ShloMosaic Cert.ReferenceIdeal Cert.ReferenceIdeal.Gen

theorem lin3_apply (x : FVec Ideal S2x2048x1024 .f32) (w : FVec Ideal S1024x1024 .f32) (c : FVec Ideal S1024 .f32) (b : Fin 2) (s : Fin 2048)
    (d : Fin 1024) : lin3 x w c (ix3 b s d) = lin (fun e => x (ix3 b s e)) (fun i e => w (ix2 i e)) (fun i => c (ix1 i)) d := by
  unfold lin3 lin
  pointwise [dot_S2x2048x1024_S1024x1024_S2x2048x1024_2_0_01_1_n_n]

theorem lin4_apply (x : FVec Ideal S2x2048x8x1024 .f32) (w : FVec Ideal S1024x1024 .f32) (c : FVec Ideal S1024 .f32) (b : Fin 2) (s : Fin 2048)
    (k : Fin 8) (d : Fin 1024) :
    lin4 x w c (ix4 b s k d) = lin (fun e => x (ix4 b s k e)) (fun i e => w (ix2 i e)) (fun i => c (ix1 i)) d := by
  unfold lin4 lin
  pointwise [dot_S2x2048x8x1024_S1024x1024_S2x2048x8x1024_3_0_012_1_n_n]

theorem scores_apply (t : FVec Ideal S2x2048x1024 .f32) (st : FVec Ideal S2x1024x1024 .f32) (b : Fin 2) (s : Fin 2048) (n : Fin 1024) :
    scores t st (ix3 b s n) = ∑ d : Fin 1024, t (ix3 b s d) * st (ix3 b n d) := by
  unfold scores
  pointwise [dot_S2x2048x1024_S2x1024x1024_S2x2048x1024_2_1_1_2_0_0]

theorem logits_apply (q : FVec Ideal S2x2048x1024 .f32) (k : FVec Ideal S2x2048x8x1024 .f32) (b : Fin 2) (h : Fin 16) (s : Fin 2048) (j : Fin 8) :
    logits q k (ix4 b h s j) = (∑ x : Fin 64, q (ix3 b s (hCol h x)) * k (ix4 b s j (hCol h x))) * eighth := by
  unfold logits heads3 heads4
  pointwise [dot_S2x16x2048x64_S2x16x2048x8x64_S2x16x2048x8_3_4_n_3_012_012]
  rfl

theorem exps_apply (l : FVec Ideal S2x16x2048x8 .f32) (b : Fin 2) (h : Fin 16) (s : Fin 2048) (j : Fin 8) :
    exps l (ix4 b h s j) = Ideal.exp (l (ix4 b h s j) - (Finset.univ : Finset (Fin 8)).fold max ⊥ fun i => l (ix4 b h s i)) := by
  unfold exps along
  pointwise []
  rw [show Ideal.ofBits .f32 0xFF800000#32 = ⊥ by simp [Ideal.ofBits, Ideal.ieee], max_eq_right bot_le]

theorem soft_apply (l : FVec Ideal S2x16x2048x8 .f32) (b : Fin 2) (h : Fin 16) (s : Fin 2048) (j : Fin 8) :
    soft l (ix4 b h s j) = Ideal.div (exps l (ix4 b h s j)) (∑ i : Fin 8, exps l (ix4 b h s i)) := by
  unfold soft along
  pointwise []

theorem mixed_apply (w : FVec Ideal S2x16x2048x8 .f32) (v : FVec Ideal S2x2048x8x1024 .f32) (b : Fin 2) (s : Fin 2048) (d : Fin 1024) :
    mixed w v (ix3 b s d) = ∑ k : Fin 8, w (ix4 b (headOf d) s k) * v (ix4 b s k d) := by
  unfold mixed heads4
  pointwise [dot_S2x16x2048x8_S2x16x2048x8x64_S2x16x2048x64_3_3_n_4_012_012]
  rfl

/-- The state a position names: a position is nonnegative, so it is not moved. -/
theorem kept_word : ∀ v : Fin 1024,
    Scalar.select (IntOp.cmpi .slt (BitVec.ofNat 32 v.val) 0#32) (IntOp.addi (BitVec.ofNat 32 v.val) 1024#32) (BitVec.ofNat 32 v.val)
      = BitVec.ofNat 32 v.val ∧ min (BitVec.ofNat 32 v.val).toInt.toNat (1024 - 1) = v.val := by
  decide +kernel

abbrev gd : GatherDims S2x1024x1024 S2x2048x8x1 S2x2048x8x1024 := gather_S2x1024x1024_S2x2048x8x1_S2x2048x8x1024_3_1_0_0_1_3_111024

theorem gather_apply (st : FVec Ideal S2x1024x1024 .f32) (ix : IVec S2x2048x8x1 32) (b : Fin 2) (s : Fin 2048) (k : Fin 8) (e : Fin 1024)
    (v : Fin 1024) (hv : min (ix (ix4 b s k 0)).toInt.toNat (1024 - 1) = v.val) : Host.gather gd st ix (ix4 b s k e) = st (ix3 b v e) := by
  have h0 : gd.start (ix4 b s k e) ix (0 : Fin 3) + gd.batchCoord (ix4 b s k e) (0 : Fin 3) + gd.offCoord (ix4 b s k e) (0 : Fin 3) = b.val := by
    rw [gd.start_batching _ _ _ (List.mem_singleton.mpr rfl), gd.offCoord_eq_zero _ _ (fun h => ((gd.mem_sKept _).mp h).2 (List.mem_singleton.mpr rfl))]
    rw [Nat.zero_add, Nat.add_zero]
    rfl
  have h1 : gd.start (ix4 b s k e) ix (1 : Fin 3) + gd.batchCoord (ix4 b s k e) (1 : Fin 3) + gd.offCoord (ix4 b s k e) (1 : Fin 3) = v.val := by
    rw [gd.batchCoord_eq_zero _ _ (by decide), gd.offCoord_eq_zero _ _ (fun h => ((gd.mem_sKept _).mp h).1 (List.mem_singleton.mpr rfl))]
    rw [Nat.add_zero]
    unfold GatherDims.start
    rw [dif_pos (show (1 : Fin 3) ∈ gd.startIndexMap from List.mem_singleton.mpr rfl)]
    refine Eq.trans ?_ hv
    have hsi : gd.siIdx (ix4 b s k e) ⟨List.idxOf (1 : Fin 3) gd.startIndexMap, List.idxOf_lt_length_iff.2 (List.mem_singleton.mpr rfl)⟩
        = ix4 b s k 0 := by
      funext i
      refine Fin.ext ?_
      match i with
      | ⟨0, _⟩ => rfl
      | ⟨1, _⟩ => rfl
      | ⟨2, _⟩ => rfl
      | ⟨3, _⟩ => rfl
    rw [hsi]
    rfl
  have h2 : gd.start (ix4 b s k e) ix (2 : Fin 3) + gd.batchCoord (ix4 b s k e) (2 : Fin 3) + gd.offCoord (ix4 b s k e) (2 : Fin 3) = e.val := by
    rw [gd.batchCoord_eq_zero _ _ (by decide)]
    unfold GatherDims.start
    rw [dif_neg (by decide)]
    rw [Nat.zero_add]
    rfl
  unfold Host.gather
  refine congrArg st (funext fun a => Fin.ext ?_)
  match a with
  | ⟨0, _⟩ => exact h0
  | ⟨1, _⟩ => exact h1
  | ⟨2, _⟩ => exact h2

theorem picked_apply (st : FVec Ideal S2x1024x1024 .f32) (ix : IVec S2x2048x8 32) (b : Fin 2) (s : Fin 2048) (k : Fin 8) (e : Fin 1024)
    (v : Fin 1024) (hv : ix (ix3 b s k) = BitVec.ofNat 32 v.val) : picked st ix (ix4 b s k e) = st (ix3 b v e) := by
  unfold picked
  refine gather_apply _ _ b s k e v (Eq.trans (congrArg (fun w : BitVec 32 => min w.toInt.toNat (1024 - 1)) ?_) (kept_word v).2)
  pointwise []
  rw [hv]
  exact (kept_word v).1

theorem along_ix (b : Fin 2) (s : Fin 2048) (k n : Fin 1024) :
    Shape.Idx.along (s := S2x2048x1024) (ix3 b s k) (2 : Fin 3) n = ix3 b s n := by
  funext a
  match a with
  | ⟨0, _⟩ => rfl
  | ⟨1, _⟩ => rfl
  | ⟨2, _⟩ => rfl

/-- A sort of two arrays along the last axis, the second read at an element. -/
theorem sort2_apply (cmp : EReal × BitVec 32 → EReal × BitVec 32 → BitVec 1) (x : S2x2048x1024.Idx → EReal) (y : IVec S2x2048x1024 32) (b : Fin 2)
    (s : Fin 2048) (k : Fin 1024) :
    (Host.sort2 S2x2048x1024 2 cmp x y).2 (ix3 b s k)
      = y (ix3 b s (sortedFrom (fun n n' => cmp (x (ix3 b s n), y (ix3 b s n)) (x (ix3 b s n'), y (ix3 b s n')) == 1#1) k)) := by
  unfold Host.sort2
  rw [dif_pos (by decide)]
  exact congrArg y ((along_ix b s k _).trans (congrArg (fun P => ix3 b s (sortedFrom P k)) (funext fun n => funext fun n' =>
    congrArg₂ (fun u w => cmp (x u, y u) (x w, y w) == 1#1) (along_ix b s k n) (along_ix b s k n'))))

theorem tops_apply (x : FVec Ideal S2x2048x1024 .f32) (b : Fin 2) (s : Fin 2048) (k : Fin 8) :
    tops x (ix3 b s k) = BitVec.ofNat 32 (best (fun n => x (ix3 b s n)) (k.castLE (by decide))).val := by
  unfold tops Host.topK
  pointwise []
  have hm : (fun n n' : Fin 1024 => FloatOps.cmpfTotal (F := Ideal) (φ := .f32) .gt (x (ix3 b s n)) (x (ix3 b s n')) == 1#1)
      = more (fun n => x (ix3 b s n)) := by
    funext n n'
    show (BitVec.ofBool (decide (x (ix3 b s n') < x (ix3 b s n))) == 1#1) = decide (x (ix3 b s n') < x (ix3 b s n))
    cases decide (x (ix3 b s n') < x (ix3 b s n)) <;> rfl
  unfold best
  rw [← hm]
  have hk : (⟨k.val, by omega⟩ : Fin 1024) = k.castLE (by decide) := rfl
  rw [hk]
  rw [sort2_apply]
  generalize sortedFrom _ _ = v
  rfl

end Cert.Proof.RV.Ref
-- ==== Proof.RV.Reals.lean ====
/-
  Real entries: sums and products of them are real, and a row's weights do not change when a number is taken off its entries.
-/
module

public import proofs.«01_k».proof.Proof.RV.Spec

@[expose] public section

noncomputable section

namespace Cert.Proof.RV

open Idealize.ShloMosaic

/-- Neither of the two infinities. -/
def IsReal (x : EReal) : Prop := ∃ r : ℝ, x = r

namespace IsReal

theorem of_bounds {x : EReal} (h0 : ⊥ < x) (h1 : x < ⊤) : IsReal x := ⟨x.toReal, (EReal.coe_toReal h1.ne h0.ne').symm⟩

theorem gt_bot {x : EReal} (h : IsReal x) : ⊥ < x := by
  obtain ⟨r, rfl⟩ := h
  exact EReal.bot_lt_coe r

theorem lt_top {x : EReal} (h : IsReal x) : x < ⊤ := by
  obtain ⟨r, rfl⟩ := h
  exact EReal.coe_lt_top r

theorem add {x y : EReal} (hx : IsReal x) (hy : IsReal y) : IsReal (x + y) := by
  obtain ⟨r, rfl⟩ := hx
  obtain ⟨t, rfl⟩ := hy
  exact ⟨r + t, (EReal.coe_add r t).symm⟩

theorem mul {x y : EReal} (hx : IsReal x) (hy : IsReal y) : IsReal (x * y) := by
  obtain ⟨r, rfl⟩ := hx
  obtain ⟨t, rfl⟩ := hy
  exact ⟨r * t, (EReal.coe_mul r t).symm⟩

end IsReal

theorem sum_coe {ι : Type} (s : Finset ι) (f : ι → ℝ) : (∑ i ∈ s, (f i : EReal)) = ((∑ i ∈ s, f i : ℝ) : EReal) := by
  classical
  induction s using Finset.induction_on with
  | empty => rfl
  | insert i s hi ih => rw [Finset.sum_insert hi, Finset.sum_insert hi, ih, EReal.coe_add]

theorem IsReal.sum {ι : Type} (s : Finset ι) {f : ι → EReal} (hf : ∀ i, IsReal (f i)) : IsReal (∑ i ∈ s, f i) := by
  choose r hr using hf
  exact ⟨∑ i ∈ s, r i, (Finset.sum_congr rfl fun i _ => hr i).trans (sum_coe s r)⟩

theorem isReal_lin {x : Fin 1024 → EReal} {w : Fin 1024 → Fin 1024 → EReal} {b : Fin 1024 → EReal} (hx : ∀ e, IsReal (x e))
    (hw : ∀ i e, IsReal (w i e)) (hb : ∀ i, IsReal (b i)) (d : Fin 1024) : IsReal (lin x w b d) :=
  (IsReal.sum _ fun e => (hx e).mul (hw d e)).add (hb d)

theorem isReal_eighth : IsReal eighth := by
  refine ⟨(1 / 8 : ℝ), ?_⟩
  unfold eighth
  simp [Ideal.ofBits, Ideal.ieee]
  rw [← EReal.coe_mul]
  norm_num

/-- The arguments the routing and the scores are made of, real at every entry. -/
structure Ins.Real (a : Ins) : Prop where
  tok : ∀ b s e, IsReal (a.tok b s e)
  st : ∀ b n e, IsReal (a.st b n e)
  rw_ : ∀ i e, IsReal (a.rw_ i e)
  rb : ∀ i, IsReal (a.rb i)
  qw : ∀ i e, IsReal (a.qw i e)
  qb : ∀ i, IsReal (a.qb i)
  kw : ∀ i e, IsReal (a.kw i e)
  kb : ∀ i, IsReal (a.kb i)

theorem Ins.Real.score {a : Ins} (h : a.Real) (b : Fin 2) (s : Fin 2048) (n : Fin 1024) : IsReal (a.score b s n) :=
  IsReal.sum _ fun d => (isReal_lin (h.tok b s) h.rw_ h.rb d).mul (h.st b n d)

theorem Ins.Real.logit {a : Ins} (h : a.Real) (b : Fin 2) (s : Fin 2048) (i : Fin 16) (k : Fin 8) : IsReal (a.logit b s i k) :=
  (IsReal.sum _ fun x => (isReal_lin (h.tok b s) h.qw h.qb _).mul (isReal_lin (h.st b _) h.kw h.kb _)).mul isReal_eighth

/-- The greatest of eight real entries is real. -/
theorem isReal_greatest {l : Fin 8 → EReal} (hl : ∀ k, IsReal (l k)) : IsReal ((Finset.univ : Finset (Fin 8)).fold max ⊥ l) := by
  refine IsReal.of_bounds ?_ ?_
  · exact (Finset.lt_fold_max _).2 (Or.inr ⟨0, Finset.mem_univ _, (hl 0).gt_bot⟩)
  · exact (Finset.fold_max_lt _).2 ⟨bot_lt_top, fun k _ => (hl k).lt_top⟩

/-- Exponentials of entries less a real number, each over their sum, are those of the entries themselves. -/
theorem soft_shift {l : Fin 8 → EReal} (hl : ∀ k, IsReal (l k)) {M : EReal} (hM : IsReal M) (k : Fin 8) :
    Ideal.div (Ideal.exp (l k - M)) (∑ i : Fin 8, Ideal.exp (l i - M)) = Ideal.div (Ideal.exp (l k)) (∑ i : Fin 8, Ideal.exp (l i)) := by
  choose r hr using hl
  obtain ⟨c, rfl⟩ := hM
  have h1 : ∀ i, Ideal.exp (l i - c) = ((Real.exp (r i - c) : ℝ) : EReal) := fun i => by rw [hr i, ← EReal.coe_sub]; rfl
  have h2 : ∀ i, Ideal.exp (l i) = ((Real.exp (r i) : ℝ) : EReal) := fun i => by rw [hr i]; rfl
  simp only [h1, h2, sum_coe]
  have hp : ∀ f : Fin 8 → ℝ, 0 < ∑ i : Fin 8, Real.exp (f i) := fun f => Finset.sum_pos (fun i _ => Real.exp_pos _) ⟨0, Finset.mem_univ _⟩
  have hd : ∀ x y : ℝ, 0 < y → Ideal.div (x : EReal) (y : EReal) = ((x / y : ℝ) : EReal) := fun x y hy => by
    unfold Ideal.div
    rw [if_neg (by exact_mod_cast hy.ne'), ← EReal.coe_inv, ← EReal.coe_mul, div_eq_mul_inv]
  rw [hd _ _ (hp _), hd _ _ (hp _)]
  refine congrArg _ ?_
  simp only [Real.exp_sub, ← Finset.sum_div]
  have := (hp r).ne'
  have := (Real.exp_pos c).ne'
  field_simp

end Cert.Proof.RV
-- ==== Proof.RV.RefSpec.lean ====
/-
  The reference's two results, entry by entry: what both programs compute.
-/
module

public import proofs.«01_k».proof.Proof.RV.RefRead
public import proofs.«01_k».proof.Proof.RV.Reals

@[expose] public section

set_option maxRecDepth 65536

noncomputable section

namespace Cert.Proof.RV.Ref

open Idealize.ShloMosaic Cert.ReferenceIdeal Cert.ReferenceIdeal.Gen

variable (m : (ℓ : Loc nD τ sig) → Buf (Elt Ideal) ℓ) (c : Dev nD)

/-- The reference's arguments. -/
def rIns : Ins where
  tok b s e := m ((c.tc : Thread nD τ).loc main_arg0) (ix3 b s e)
  st b n e := m ((c.tc : Thread nD τ).loc main_arg1) (ix3 b n e)
  rw_ i e := m ((c.tc : Thread nD τ).loc main_arg2) (ix2 i e)
  rb i := m ((c.tc : Thread nD τ).loc main_arg3) (ix1 i)
  qw i e := m ((c.tc : Thread nD τ).loc main_arg4) (ix2 i e)
  qb i := m ((c.tc : Thread nD τ).loc main_arg5) (ix1 i)
  kw i e := m ((c.tc : Thread nD τ).loc main_arg6) (ix2 i e)
  kb i := m ((c.tc : Thread nD τ).loc main_arg7) (ix1 i)
  vw i e := m ((c.tc : Thread nD τ).loc main_arg8) (ix2 i e)
  vb i := m ((c.tc : Thread nD τ).loc main_arg9) (ix1 i)
  ow i e := m ((c.tc : Thread nD τ).loc main_arg10) (ix2 i e)
  ob i := m ((c.tc : Thread nD τ).loc main_arg11) (ix1 i)

theorem chosen_apply (b : Fin 2) (s : Fin 2048) (k : Fin 8) (e : Fin 1024) :
    chosen m c (ix4 b s k e) = (rIns m c).st b ((rIns m c).sel b s k) e := by
  unfold chosen
  refine picked_apply _ _ b s k e ((rIns m c).sel b s k) ?_
  rw [tops_apply]
  refine congrArg (fun f : Fin 1024 → EReal => BitVec.ofNat 32 (best f (k.castLE (by decide))).val) (funext fun n => ?_)
  rw [scores_apply]
  exact Finset.sum_congr rfl fun d _ => congrArg (· * _) (lin3_apply _ _ _ b s d)

/-- A projection of a chosen state. -/
theorem lin4_chosen (w : FVec Ideal S1024x1024 .f32) (v : FVec Ideal S1024 .f32) (b : Fin 2) (s : Fin 2048) (k : Fin 8) (d : Fin 1024) :
    lin4 (chosen m c) w v (ix4 b s k d)
      = lin ((rIns m c).st b ((rIns m c).sel b s k)) (fun i e => w (ix2 i e)) (fun i => v (ix1 i)) d := by
  rw [lin4_apply]
  exact congrArg (fun x => lin x _ _ d) (funext fun e => chosen_apply m c b s k e)

theorem attn_spec (hr : (rIns m c).Real) (b : Fin 2) (h : Fin 16) (s : Fin 2048) (k : Fin 8) :
    attnR m c (ix4 b h s k) = (rIns m c).weight b s h k := by
  unfold attnR
  generalize hl : logits _ _ = l
  have hl' : ∀ i, l (ix4 b h s i) = (rIns m c).logit b s h i := fun i => by
    rw [← hl, logits_apply]
    refine congrArg (· * eighth) (Finset.sum_congr rfl fun x _ => ?_)
    rw [lin3_apply, lin4_chosen]
    rfl
  rw [soft_apply]
  simp only [exps_apply, hl']
  exact soft_shift (fun i => hr.logit b s h i) (isReal_greatest fun i => hr.logit b s h i) k

theorem out_spec (hr : (rIns m c).Real) (b : Fin 2) (s : Fin 2048) (e : Fin 1024) : outR m c (ix3 b s e) = (rIns m c).out b s e := by
  unfold outR
  rw [lin3_apply]
  refine congrArg (fun x => lin x _ _ e) (funext fun d => ?_)
  rw [mixed_apply]
  refine Finset.sum_congr rfl fun k _ => ?_
  rw [attn_spec m c hr, lin4_chosen]
  rfl

end Cert.Proof.RV.Ref
-- ==== Proof.RV.Pre.lean ====
/-
  What the precondition says: each entry of the first eight arguments is real.
-/
module

public import proofs.«01_k».proof.Pre_finite
public import proofs.«01_k».proof.Proof.RV.Reals

@[expose] public section

set_option maxRecDepth 65536

noncomputable section

namespace Cert.Proof.RV

open Idealize.ShloMosaic Cert.Pre_finite

theorem pre_facts : Cert.Pre_finite.Facts where
  bcast_S_S2x2048x1024 := by decide
  reducesTo_S2x2048x1024_S_d0_1_2 := by decide
  h_S_ := by decide
  bcast_S_S2x1024x1024 := by decide
  reducesTo_S2x1024x1024_S_d0_1_2 := by decide
  bcast_S_S1024x1024 := by decide
  reducesTo_S1024x1024_S_d0_1 := by decide
  bcast_S_S1024 := by decide
  reducesTo_S1024_S_d0 := by decide

theorem both_one {x y : BitVec 1} (h : IntOp.andi x y = 1#1) : x = 1#1 ∧ y = 1#1 := by
  revert x y
  decide

/-- A list and-ed together is one only when each of it is. -/
theorem foldl_and_one {α : Type} (f : α → BitVec 1) (l : List α) (v : BitVec 1) (h : l.foldl (fun r n => IntOp.andi r (f n)) v = 1#1) :
    v = 1#1 ∧ ∀ n ∈ l, f n = 1#1 := by
  induction l generalizing v with
  | nil => exact ⟨h, fun n hn => absurd hn List.not_mem_nil⟩
  | cons a l ih =>
    obtain ⟨h1, h2⟩ := ih _ h
    obtain ⟨h3, h4⟩ := both_one h1
    exact ⟨h3, fun n hn => (List.mem_cons.1 hn).elim (fun e => e ▸ h4) (h2 n)⟩

/-- A whole array and-ed together is one only when each entry is. -/
theorem reduce_and_one {s : Shape} {axes : List (Fin s.rank)} (x : IVec s 1) (v : IVec S_ 1) (h : s.ReducesTo axes S_) (hu : 0 < S_.numel)
    (j : S_.Idx) (e : Host.reduce IntOp.andi x v h hu j = 1#1) (i : s.Idx) : x i = 1#1 := by
  have h1 := (foldl_and_one (fun n => x (s.rowMajor.symm n)) _ _ e).2 (s.rowMajor i)
    (List.mem_filter.2 ⟨List.mem_finRange _, decide_eq_true (funext fun b => b.elim0)⟩)
  simpa using h1

/-- The test of an entry. -/
theorem real_of_test {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) : IsReal (x i) := by
  have ht : Ideal.ofBits .f32 0x7F800000#32 = ⊤ := by simp [Ideal.ofBits, Ideal.ieee]
  have h1 : max (x i) (-(x i)) < (⊤ : EReal) := by
    rw [← ht]
    by_contra hc
    refine absurd e ?_
    show ¬ Ideal.cmp .olt (max (x i) (-(x i))) (Ideal.ofBits .f32 0x7F800000#32) = 1#1
    simp [Ideal.cmp, hc]
  obtain ⟨h2, h3⟩ := max_lt_iff.1 h1
  refine IsReal.of_bounds ?_ h2
  rw [bot_lt_iff_ne_bot]
  rintro h
  rw [h] at h3
  exact absurd h3 (by simp)

/-- An array whose test is one is real at every entry. -/
theorem real_of_reduce {s : Shape} {axes : List (Fin s.rank)} (x : FVec Ideal s .f32) (hb : S_.BroadcastsInDim s (![] : Fin 0 → Fin s.rank))
    (v : IVec S_ 1) (h : s.ReducesTo axes S_) (hu : 0 < S_.numel) (j : S_.Idx)
    (e : Host.reduce IntOp.andi (cmpf .olt (Host.absf x) (broadcastInDim s ![] hb (constant S_ .f32 0x7F800000#32))) v h hu j = 1#1)
    (i : s.Idx) : IsReal (x i) :=
  real_of_test x hb i (reduce_and_one _ v h hu j e i)

/-- The precondition, read. -/
theorem pre_real [Cert.Pre_finite.Facts] (x0 : FVec Ideal S2x2048x1024 .f32) (x1 : FVec Ideal S2x1024x1024 .f32) (x2 x4 x6 x8 x10 : FVec Ideal S1024x1024 .f32)
    (x3 x5 x7 x9 x11 : FVec Ideal S1024 .f32) (j : S_.Idx)
    (e : Cert.Pre_finite.fn (F := Ideal) x0 x1 x2 x3 x4 x5 x6 x7 x8 x9 x10 x11 j = 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  unfold Cert.Pre_finite.fn Cert.Pre_finite.fn_part1 Cert.Pre_finite.fn_part2 at e
  obtain ⟨e, e7⟩ := both_one e
  obtain ⟨e, e6⟩ := both_one e
  obtain ⟨e, e5⟩ := both_one e
  obtain ⟨e, e4⟩ := both_one e
  obtain ⟨e, e3⟩ := both_one e
  obtain ⟨e, e2⟩ := both_one e
  obtain ⟨e0, e1⟩ := both_one e
  exact ⟨real_of_reduce x0 _ _ _ _ j e0, real_of_reduce x1 _ _ _ _ j e1, real_of_reduce x2 _ _ _ _ j e2, real_of_reduce x3 _ _ _ _ j e3,
    real_of_reduce x4 _ _ _ _ j e4, real_of_reduce x5 _ _ _ _ j e5, real_of_reduce x6 _ _ _ _ j e6, real_of_reduce x7 _ _ _ _ j e7⟩

end Cert.Proof.RV
-- ==== Proof.RV.Equal.lean ====
/-
  The kernel and the reference return the same two arrays, under the precondition.
-/
module

public import proofs.«01_k».proof.Proof.RI.Frames
public import proofs.«01_k».proof.Proof.RV.Kernel
public import proofs.«01_k».proof.Proof.RV.RefSpec
public import proofs.«01_k».proof.Proof.RV.Pre

@[expose] public section

set_option maxRecDepth 65536

noncomputable section

namespace Cert.Proof.RV

open Idealize.ShloMosaic Idealize.SL.Sem Cert.KernelIdeal Cert.Proof.RI

/-- The kernel's arguments under the precondition. -/
theorem kIns_real [Cert.Pre_finite.Facts] (m : (ℓ : Loc nD τ sig) → Buf (Elt Ideal) ℓ) (h : Cert.Pre_KernelIdeal_finite m) (c : Dev nD) :
    (kIns m c).Real := by
  obtain ⟨h0, h1, h2, h3, h4, h5, h6, h7⟩ := pre_real _ _ _ _ _ _ _ _ _ _ _ _ (Shape.Idx.first (by decide)) (congrFun (h c) _)
  exact ⟨fun b s e => h0 (ix3 b s e), fun b n e => h1 (ix3 b n e), fun i e => h2 (ix2 i e), fun i => h3 (ix1 i), fun i e => h4 (ix2 i e),
    fun i => h5 (ix1 i), fun i e => h6 (ix2 i e), fun i => h7 (ix1 i)⟩

theorem equal [Cert.Pre_finite.Facts] : Cert.algebraic_KernelIdeal_ReferenceIdeal_pre_finite := by
  intro m g m' g' hp ha
  have hi : ∀ c : Dev nD, Ref.rIns m' c = kIns m c := fun c => by
    obtain ⟨a0, a1, a2, a3, a4, a5, a6, a7, a8, a9, a10, a11⟩ := ha c
    unfold Ref.rIns
    rw [a0, a1, a2, a3, a4, a5, a6, a7, a8, a9, a10, a11]
    rfl
  have hk := kIns_real m hp
  refine ⟨fun c => W7 m c (Proc.devRef .tc main_v29_0), fun c => W7 m c (Proc.devRef .tc main_v31), ?_, ?_⟩
  · exact (θ_run (defs (F := Ideal)) _ _).mono (fun r h c => ⟨h.1 c (Proc.devRef .tc main_v29_0) (by decide),
      h.1 c (Proc.devRef .tc main_v31) (by decide),
      args_all _ fun b hb => (h.1 c (Proc.devRef .tc b) (arg_ok b hb).2.2.2.2.2.2.2.2).trans (W7_arg m c b hb)⟩) (run_main m g)
  · refine (θ_run Cert.ReferenceIdeal.defs _ _).mono (fun r h c => ⟨(h c).1.trans ?_, (h c).2.1.trans ?_, (h c).2.2⟩)
      (Cert.ReferenceIdeal.Value.run m' g')
    · rw [Ref.res56]
      funext y
      obtain ⟨b, s, e, rfl⟩ : ∃ b s e, y = ix3 b s e := ⟨_, _, _, eq_ix3 y⟩
      refine (Ref.out_spec m' c (by rw [hi c]; exact hk c) b s e).trans ?_
      rw [hi c]
      exact (out_spec m c (fun b s n => ((hk c).score b s n).gt_bot) b s e).symm
    · rw [Ref.res48]
      funext y
      obtain ⟨b, i, s, k, rfl⟩ : ∃ b i s k, y = ix4 b i s k := ⟨_, _, _, _, eq_ix4 y⟩
      refine (Ref.attn_spec m' c (by rw [hi c]; exact hk c) b i s k).trans ?_
      rw [hi c]
      exact (attn_spec m c (fun b s n => ((hk c).score b s n).gt_bot) b i s k).symm

end Cert.Proof.RV
-- ==== Proof.lean ====
/-
  The claims, assembled: the kernel's two frames from its run, the reference's from its own, the named constant's site, and the equality of
  the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RI.Frames
public import proofs.«01_k».proof.Proof.RI.Word
public import proofs.«01_k».proof.Proof.RV.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, RV.pre_facts, RI.frame_word, RI.frame_ideal,
    fun m g _ => RI.frame_ideal m g trivial, RI.frame_reference, fun m g _ => RI.frame_reference m g trivial,
    IdealRules.named_const.statement Cert.KernelIdeal.κ "mask" .f32 _ ⊥ rfl, @RV.equal RV.pre_facts⟩

end Cert.Proof

end
